-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2.2 = (fun _ => 1#1)

def Pre_Fox (m : (ℓ : Loc Cert.Fox.nD Cert.Fox.τ Cert.Fox.sig) → Buf (Elt Bits) ℓ) : Prop :=
  True

def Pre_FoxIdeal (m : (ℓ : Loc Cert.FoxIdeal.nD Cert.FoxIdeal.τ Cert.FoxIdeal.sig) → Buf (Elt Ideal) ℓ) : Prop :=
  True

def Pre_FoxIdeal_fox_finite [hPre_fox_finite : Cert.Pre_fox_finite.Facts] (m : (ℓ : Loc Cert.FoxIdeal.nD Cert.FoxIdeal.τ Cert.FoxIdeal.sig) → Buf (Elt Ideal) ℓ) : Prop :=
  ∀ c : Dev Cert.FoxIdeal.nD,
    (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2.1 = (fun _ => 1#1)
    ∧ (Cert.Pre_fox_finite.fn (F := Ideal) (m ((c.tc : Thread Cert.FoxIdeal.nD Cert.FoxIdeal.τ).loc Cert.FoxIdeal.main_arg0)) (m ((c.tc : Thread Cert.FoxIdeal.nD Cert.FoxIdeal.τ).loc Cert.FoxIdeal.main_arg1)) (m ((c.tc : Thread Cert.FoxIdeal.nD Cert.FoxIdeal.τ).loc Cert.FoxIdeal.main_arg2)) (m ((c.tc : Thread Cert.FoxIdeal.nD Cert.FoxIdeal.τ).loc Cert.FoxIdeal.main_arg3))).2.2.2 = (fun _ => 1#1)

def Pre_FoxRefIdeal (m : (ℓ : Loc Cert.FoxRefIdeal.nD Cert.FoxRefIdeal.τ Cert.FoxRefIdeal.sig) → Buf (Elt Ideal) ℓ) : Prop :=
  True

def Pre_FoxRefIdeal_fox_finite [hPre_fox_finite : Cert.Pre_fox_finite.Facts] (m : (ℓ : Loc Cert.FoxRefIdeal.nD Cert.FoxRefIdeal.τ Cert.FoxRefIdeal.sig) → Buf (Elt Ideal) ℓ) : Prop :=
  ∀ c : Dev Cert.FoxRefIdeal.nD,
    (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2.1 = (fun _ => 1#1)
    ∧ (Cert.Pre_fox_finite.fn (F := Ideal) (m ((c.tc : Thread Cert.FoxRefIdeal.nD Cert.FoxRefIdeal.τ).loc Cert.FoxRefIdeal.main_arg0)) (m ((c.tc : Thread Cert.FoxRefIdeal.nD Cert.FoxRefIdeal.τ).loc Cert.FoxRefIdeal.main_arg1)) (m ((c.tc : Thread Cert.FoxRefIdeal.nD Cert.FoxRefIdeal.τ).loc Cert.FoxRefIdeal.main_arg2)) (m ((c.tc : Thread Cert.FoxRefIdeal.nD Cert.FoxRefIdeal.τ).loc Cert.FoxRefIdeal.main_arg3))).2.2.2 = (fun _ => 1#1)

def Pre_PostEven (m : (ℓ : Loc Cert.PostEven.nD Cert.PostEven.τ Cert.PostEven.sig) → Buf (Elt Bits) ℓ) : Prop :=
  True

def Pre_PostEvenIdeal (m : (ℓ : Loc Cert.PostEvenIdeal.nD Cert.PostEvenIdeal.τ Cert.PostEvenIdeal.sig) → Buf (Elt Ideal) ℓ) : Prop :=
  True

def Pre_PostEvenRefIdeal (m : (ℓ : Loc Cert.PostEvenRefIdeal.nD Cert.PostEvenRefIdeal.τ Cert.PostEvenRefIdeal.sig) → Buf (Elt Ideal) ℓ) : Prop :=
  True

def Pre_PostOdd (m : (ℓ : Loc Cert.PostOdd.nD Cert.PostOdd.τ Cert.PostOdd.sig) → Buf (Elt Bits) ℓ) : Prop :=
  True

def Pre_PostOddIdeal (m : (ℓ : Loc Cert.PostOddIdeal.nD Cert.PostOddIdeal.τ Cert.PostOddIdeal.sig) → Buf (Elt Ideal) ℓ) : Prop :=
  True

def Pre_PostOddRefIdeal (m : (ℓ : Loc Cert.PostOddRefIdeal.nD Cert.PostOddRefIdeal.τ Cert.PostOddRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Fox [hFox : Cert.Fox.Facts] : Prop :=
  ∀ (m : (ℓ : Loc Cert.Fox.nD Cert.Fox.τ Cert.Fox.sig) → Buf (Elt Bits) ℓ) (g : Dev Cert.Fox.nD → PrngReg), Pre_Fox m →
    θ_run (Cert.Fox.defs (F := Bits)) (onTc (τ := Cert.Fox.τ) (Cert.Fox.main (F := Bits))) ⟨m, fun _ => 0, g⟩ (fun r => (∀ c : Dev Cert.Fox.nD,
      r.2.mem ((c.tc : Thread Cert.Fox.nD Cert.Fox.τ).loc Cert.Fox.main_arg0) = m ((c.tc : Thread Cert.Fox.nD Cert.Fox.τ).loc Cert.Fox.main_arg0)
      ∧ r.2.mem ((c.tc : Thread Cert.Fox.nD Cert.Fox.τ).loc Cert.Fox.main_arg1) = m ((c.tc : Thread Cert.Fox.nD Cert.Fox.τ).loc Cert.Fox.main_arg1)
      ∧ r.2.mem ((c.tc : Thread Cert.Fox.nD Cert.Fox.τ).loc Cert.Fox.main_arg2) = m ((c.tc : Thread Cert.Fox.nD Cert.Fox.τ).loc Cert.Fox.main_arg2)
      ∧ r.2.mem ((c.tc : Thread Cert.Fox.nD Cert.Fox.τ).loc Cert.Fox.main_arg3) = m ((c.tc : Thread Cert.Fox.nD Cert.Fox.τ).loc Cert.Fox.main_arg3))
      ∧ r.2.sem = fun _ => 0)

def quiescent_FoxIdeal [hFoxIdeal : Cert.FoxIdeal.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxIdeal_pre_fox_finite [hFoxIdeal : Cert.FoxIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg), Pre_FoxIdeal_fox_finite m →
    θ_run (Cert.FoxIdeal.defs (F := Ideal)) (onTc (τ := Cert.FoxIdeal.τ) (Cert.FoxIdeal.main (F := Ideal))) ⟨m, fun _ => 0, g⟩ (fun r => (∀ c : Dev Cert.FoxIdeal.nD,
      r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
      ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
      ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
      ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ r.2.sem = fun _ => 0)

def quiescent_FoxRefIdeal [hFoxRefIdeal : Cert.FoxRefIdeal.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_FoxRefIdeal_pre_fox_finite [hFoxRefIdeal : Cert.FoxRefIdeal.Facts] [hPre_fox_finite : Cert.Pre_fox_finite.Facts] : Prop :=
  ∀ (m : (ℓ : Loc Cert.FoxRefIdeal.nD Cert.FoxRefIdeal.τ Cert.FoxRefIdeal.sig) → Buf (Elt Ideal) ℓ) (g : Dev Cert.FoxRefIdeal.nD → PrngReg), Pre_FoxRefIdeal_fox_finite m →
    θ_run (Cert.FoxRefIdeal.defs (F := Ideal)) (onTc (τ := Cert.FoxRefIdeal.τ) (Cert.FoxRefIdeal.main (F := Ideal))) ⟨m, fun _ => 0, g⟩ (fun r => (∀ c : Dev Cert.FoxRefIdeal.nD,
      r.2.mem ((c.tc : Thread Cert.FoxRefIdeal.nD Cert.FoxRefIdeal.τ).loc Cert.FoxRefIdeal.main_arg0) = m ((c.tc : Thread Cert.FoxRefIdeal.nD Cert.FoxRefIdeal.τ).loc Cert.FoxRefIdeal.main_arg0)
      ∧ r.2.mem ((c.tc : Thread Cert.FoxRefIdeal.nD Cert.FoxRefIdeal.τ).loc Cert.FoxRefIdeal.main_arg1) = m ((c.tc : Thread Cert.FoxRefIdeal.nD Cert.FoxRefIdeal.τ).loc Cert.FoxRefIdeal.main_arg1)
      ∧ r.2.mem ((c.tc : Thread Cert.FoxRefIdeal.nD Cert.FoxRefIdeal.τ).loc Cert.FoxRefIdeal.main_arg2) = m ((c.tc : Thread Cert.FoxRefIdeal.nD Cert.FoxRefIdeal.τ).loc Cert.FoxRefIdeal.main_arg2)
      ∧ r.2.mem ((c.tc : Thread Cert.FoxRefIdeal.nD Cert.FoxRefIdeal.τ).loc Cert.FoxRefIdeal.main_arg3) = m ((c.tc : Thread Cert.FoxRefIdeal.nD Cert.FoxRefIdeal.τ).loc Cert.FoxRefIdeal.main_arg3))
      ∧ r.2.sem = fun _ => 0)

def quiescent_PostEven [hPostEven : Cert.PostEven.Facts] : Prop :=
  ∀ (m : (ℓ : Loc Cert.PostEven.nD Cert.PostEven.τ Cert.PostEven.sig) → Buf (Elt Bits) ℓ) (g : Dev Cert.PostEven.nD → PrngReg), Pre_PostEven m →
    θ_run (Cert.PostEven.defs (F := Bits)) (onTc (τ := Cert.PostEven.τ) (Cert.PostEven.main (F := Bits))) ⟨m, fun _ => 0, g⟩ (fun r => (∀ c : Dev Cert.PostEven.nD,
      r.2.mem ((c.tc : Thread Cert.PostEven.nD Cert.PostEven.τ).loc Cert.PostEven.main_arg0) = m ((c.tc : Thread Cert.PostEven.nD Cert.PostEven.τ).loc Cert.PostEven.main_arg0)
      ∧ r.2.mem ((c.tc : Thread Cert.PostEven.nD Cert.PostEven.τ).loc Cert.PostEven.main_arg1) = m ((c.tc : Thread Cert.PostEven.nD Cert.PostEven.τ).loc Cert.PostEven.main_arg1)
      ∧ r.2.mem ((c.tc : Thread Cert.PostEven.nD Cert.PostEven.τ).loc Cert.PostEven.main_arg2) = m ((c.tc : Thread Cert.PostEven.nD Cert.PostEven.τ).loc Cert.PostEven.main_arg2)
      ∧ r.2.mem ((c.tc : Thread Cert.PostEven.nD Cert.PostEven.τ).loc Cert.PostEven.main_arg3) = m ((c.tc : Thread Cert.PostEven.nD Cert.PostEven.τ).loc Cert.PostEven.main_arg3)
      ∧ r.2.mem ((c.tc : Thread Cert.PostEven.nD Cert.PostEven.τ).loc Cert.PostEven.main_arg4) = m ((c.tc : Thread Cert.PostEven.nD Cert.PostEven.τ).loc Cert.PostEven.main_arg4)
      ∧ r.2.mem ((c.tc : Thread Cert.PostEven.nD Cert.PostEven.τ).loc Cert.PostEven.main_arg5) = m ((c.tc : Thread Cert.PostEven.nD Cert.PostEven.τ).loc Cert.PostEven.main_arg5)
      ∧ r.2.mem ((c.tc : Thread Cert.PostEven.nD Cert.PostEven.τ).loc Cert.PostEven.main_arg6) = m ((c.tc : Thread Cert.PostEven.nD Cert.PostEven.τ).loc Cert.PostEven.main_arg6)
      ∧ r.2.mem ((c.tc : Thread Cert.PostEven.nD Cert.PostEven.τ).loc Cert.PostEven.main_arg7) = m ((c.tc : Thread Cert.PostEven.nD Cert.PostEven.τ).loc Cert.PostEven.main_arg7))
      ∧ r.2.sem = fun _ => 0)

def quiescent_PostEvenIdeal [hPostEvenIdeal : Cert.PostEvenIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg), Pre_PostEvenIdeal m →
    θ_run (Cert.PostEvenIdeal.defs (F := Ideal)) (onTc (τ := Cert.PostEvenIdeal.τ) (Cert.PostEvenIdeal.main (F := Ideal))) ⟨m, fun _ => 0, g⟩ (fun r => (∀ c : Dev Cert.PostEvenIdeal.nD,
      r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
      ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
      ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
      ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
      ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
      ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
      ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
      ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7))
      ∧ r.2.sem = fun _ => 0)

def quiescent_PostEvenRefIdeal [hPostEvenRefIdeal : Cert.PostEvenRefIdeal.Facts] : Prop :=
  ∀ (m : (ℓ : Loc Cert.PostEvenRefIdeal.nD Cert.PostEvenRefIdeal.τ Cert.PostEvenRefIdeal.sig) → Buf (Elt Ideal) ℓ) (g : Dev Cert.PostEvenRefIdeal.nD → PrngReg), Pre_PostEvenRefIdeal m →
    θ_run (Cert.PostEvenRefIdeal.defs (F := Ideal)) (onTc (τ := Cert.PostEvenRefIdeal.τ) (Cert.PostEvenRefIdeal.main (F := Ideal))) ⟨m, fun _ => 0, g⟩ (fun r => (∀ c : Dev Cert.PostEvenRefIdeal.nD,
      r.2.mem ((c.tc : Thread Cert.PostEvenRefIdeal.nD Cert.PostEvenRefIdeal.τ).loc Cert.PostEvenRefIdeal.main_arg0) = m ((c.tc : Thread Cert.PostEvenRefIdeal.nD Cert.PostEvenRefIdeal.τ).loc Cert.PostEvenRefIdeal.main_arg0)
      ∧ r.2.mem ((c.tc : Thread Cert.PostEvenRefIdeal.nD Cert.PostEvenRefIdeal.τ).loc Cert.PostEvenRefIdeal.main_arg1) = m ((c.tc : Thread Cert.PostEvenRefIdeal.nD Cert.PostEvenRefIdeal.τ).loc Cert.PostEvenRefIdeal.main_arg1)
      ∧ r.2.mem ((c.tc : Thread Cert.PostEvenRefIdeal.nD Cert.PostEvenRefIdeal.τ).loc Cert.PostEvenRefIdeal.main_arg2) = m ((c.tc : Thread Cert.PostEvenRefIdeal.nD Cert.PostEvenRefIdeal.τ).loc Cert.PostEvenRefIdeal.main_arg2)
      ∧ r.2.mem ((c.tc : Thread Cert.PostEvenRefIdeal.nD Cert.PostEvenRefIdeal.τ).loc Cert.PostEvenRefIdeal.main_arg3) = m ((c.tc : Thread Cert.PostEvenRefIdeal.nD Cert.PostEvenRefIdeal.τ).loc Cert.PostEvenRefIdeal.main_arg3)
      ∧ r.2.mem ((c.tc : Thread Cert.PostEvenRefIdeal.nD Cert.PostEvenRefIdeal.τ).loc Cert.PostEvenRefIdeal.main_arg4) = m ((c.tc : Thread Cert.PostEvenRefIdeal.nD Cert.PostEvenRefIdeal.τ).loc Cert.PostEvenRefIdeal.main_arg4)
      ∧ r.2.mem ((c.tc : Thread Cert.PostEvenRefIdeal.nD Cert.PostEvenRefIdeal.τ).loc Cert.PostEvenRefIdeal.main_arg5) = m ((c.tc : Thread Cert.PostEvenRefIdeal.nD Cert.PostEvenRefIdeal.τ).loc Cert.PostEvenRefIdeal.main_arg5)
      ∧ r.2.mem ((c.tc : Thread Cert.PostEvenRefIdeal.nD Cert.PostEvenRefIdeal.τ).loc Cert.PostEvenRefIdeal.main_arg6) = m ((c.tc : Thread Cert.PostEvenRefIdeal.nD Cert.PostEvenRefIdeal.τ).loc Cert.PostEvenRefIdeal.main_arg6)
      ∧ r.2.mem ((c.tc : Thread Cert.PostEvenRefIdeal.nD Cert.PostEvenRefIdeal.τ).loc Cert.PostEvenRefIdeal.main_arg7) = m ((c.tc : Thread Cert.PostEvenRefIdeal.nD Cert.PostEvenRefIdeal.τ).loc Cert.PostEvenRefIdeal.main_arg7))
      ∧ r.2.sem = fun _ => 0)

def quiescent_PostOdd [hPostOdd : Cert.PostOdd.Facts] : Prop :=
  ∀ (m : (ℓ : Loc Cert.PostOdd.nD Cert.PostOdd.τ Cert.PostOdd.sig) → Buf (Elt Bits) ℓ) (g : Dev Cert.PostOdd.nD → PrngReg), Pre_PostOdd m →
    θ_run (Cert.PostOdd.defs (F := Bits)) (onTc (τ := Cert.PostOdd.τ) (Cert.PostOdd.main (F := Bits))) ⟨m, fun _ => 0, g⟩ (fun r => (∀ c : Dev Cert.PostOdd.nD,
      r.2.mem ((c.tc : Thread Cert.PostOdd.nD Cert.PostOdd.τ).loc Cert.PostOdd.main_arg0) = m ((c.tc : Thread Cert.PostOdd.nD Cert.PostOdd.τ).loc Cert.PostOdd.main_arg0)
      ∧ r.2.mem ((c.tc : Thread Cert.PostOdd.nD Cert.PostOdd.τ).loc Cert.PostOdd.main_arg1) = m ((c.tc : Thread Cert.PostOdd.nD Cert.PostOdd.τ).loc Cert.PostOdd.main_arg1)
      ∧ r.2.mem ((c.tc : Thread Cert.PostOdd.nD Cert.PostOdd.τ).loc Cert.PostOdd.main_arg2) = m ((c.tc : Thread Cert.PostOdd.nD Cert.PostOdd.τ).loc Cert.PostOdd.main_arg2)
      ∧ r.2.mem ((c.tc : Thread Cert.PostOdd.nD Cert.PostOdd.τ).loc Cert.PostOdd.main_arg3) = m ((c.tc : Thread Cert.PostOdd.nD Cert.PostOdd.τ).loc Cert.PostOdd.main_arg3)
      ∧ r.2.mem ((c.tc : Thread Cert.PostOdd.nD Cert.PostOdd.τ).loc Cert.PostOdd.main_arg4) = m ((c.tc : Thread Cert.PostOdd.nD Cert.PostOdd.τ).loc Cert.PostOdd.main_arg4)
      ∧ r.2.mem ((c.tc : Thread Cert.PostOdd.nD Cert.PostOdd.τ).loc Cert.PostOdd.main_arg5) = m ((c.tc : Thread Cert.PostOdd.nD Cert.PostOdd.τ).loc Cert.PostOdd.main_arg5)
      ∧ r.2.mem ((c.tc : Thread Cert.PostOdd.nD Cert.PostOdd.τ).loc Cert.PostOdd.main_arg6) = m ((c.tc : Thread Cert.PostOdd.nD Cert.PostOdd.τ).loc Cert.PostOdd.main_arg6))
      ∧ r.2.sem = fun _ => 0)

def quiescent_PostOddIdeal [hPostOddIdeal : Cert.PostOddIdeal.Facts] : Prop :=
  ∀ (m : (ℓ : Loc Cert.PostOddIdeal.nD Cert.PostOddIdeal.τ Cert.PostOddIdeal.sig) → Buf (Elt Ideal) ℓ) (g : Dev Cert.PostOddIdeal.nD → PrngReg), Pre_PostOddIdeal m →
    θ_run (Cert.PostOddIdeal.defs (F := Ideal)) (onTc (τ := Cert.PostOddIdeal.τ) (Cert.PostOddIdeal.main (F := Ideal))) ⟨m, fun _ => 0, g⟩ (fun r => (∀ c : Dev Cert.PostOddIdeal.nD,
      r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
      ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
      ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
      ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
      ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
      ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
      ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6))
      ∧ r.2.sem = fun _ => 0)

def quiescent_PostOddRefIdeal [hPostOddRefIdeal : Cert.PostOddRefIdeal.Facts] : Prop :=
  ∀ (m : (ℓ : Loc Cert.PostOddRefIdeal.nD Cert.PostOddRefIdeal.τ Cert.PostOddRefIdeal.sig) → Buf (Elt Ideal) ℓ) (g : Dev Cert.PostOddRefIdeal.nD → PrngReg), Pre_PostOddRefIdeal m →
    θ_run (Cert.PostOddRefIdeal.defs (F := Ideal)) (onTc (τ := Cert.PostOddRefIdeal.τ) (Cert.PostOddRefIdeal.main (F := Ideal))) ⟨m, fun _ => 0, g⟩ (fun r => (∀ c : Dev Cert.PostOddRefIdeal.nD,
      r.2.mem ((c.tc : Thread Cert.PostOddRefIdeal.nD Cert.PostOddRefIdeal.τ).loc Cert.PostOddRefIdeal.main_arg0) = m ((c.tc : Thread Cert.PostOddRefIdeal.nD Cert.PostOddRefIdeal.τ).loc Cert.PostOddRefIdeal.main_arg0)
      ∧ r.2.mem ((c.tc : Thread Cert.PostOddRefIdeal.nD Cert.PostOddRefIdeal.τ).loc Cert.PostOddRefIdeal.main_arg1) = m ((c.tc : Thread Cert.PostOddRefIdeal.nD Cert.PostOddRefIdeal.τ).loc Cert.PostOddRefIdeal.main_arg1)
      ∧ r.2.mem ((c.tc : Thread Cert.PostOddRefIdeal.nD Cert.PostOddRefIdeal.τ).loc Cert.PostOddRefIdeal.main_arg2) = m ((c.tc : Thread Cert.PostOddRefIdeal.nD Cert.PostOddRefIdeal.τ).loc Cert.PostOddRefIdeal.main_arg2)
      ∧ r.2.mem ((c.tc : Thread Cert.PostOddRefIdeal.nD Cert.PostOddRefIdeal.τ).loc Cert.PostOddRefIdeal.main_arg3) = m ((c.tc : Thread Cert.PostOddRefIdeal.nD Cert.PostOddRefIdeal.τ).loc Cert.PostOddRefIdeal.main_arg3)
      ∧ r.2.mem ((c.tc : Thread Cert.PostOddRefIdeal.nD Cert.PostOddRefIdeal.τ).loc Cert.PostOddRefIdeal.main_arg4) = m ((c.tc : Thread Cert.PostOddRefIdeal.nD Cert.PostOddRefIdeal.τ).loc Cert.PostOddRefIdeal.main_arg4)
      ∧ r.2.mem ((c.tc : Thread Cert.PostOddRefIdeal.nD Cert.PostOddRefIdeal.τ).loc Cert.PostOddRefIdeal.main_arg5) = m ((c.tc : Thread Cert.PostOddRefIdeal.nD Cert.PostOddRefIdeal.τ).loc Cert.PostOddRefIdeal.main_arg5)
      ∧ r.2.mem ((c.tc : Thread Cert.PostOddRefIdeal.nD Cert.PostOddRefIdeal.τ).loc Cert.PostOddRefIdeal.main_arg6) = m ((c.tc : Thread Cert.PostOddRefIdeal.nD Cert.PostOddRefIdeal.τ).loc Cert.PostOddRefIdeal.main_arg6))
      ∧ r.2.sem = fun _ => 0)

def preserves_Kernel_KernelIdeal : Prop :=
  IdealRules.named_const.Statement Cert.KernelIdeal.κ "qscale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v74) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Fox_FoxIdeal : Prop :=
  IdealRules.named_const.Statement Cert.FoxIdeal.κ "fscale" .f32 0x3E0293EE#32 ((((Real.sqrt 128) * (Real.log 2))⁻¹ : ℝ) : EReal)

def algebraic_FoxIdeal_FoxRefIdeal_pre_fox_finite [hFoxIdeal : Cert.FoxIdeal.Facts] [hFoxRefIdeal : Cert.FoxRefIdeal.Facts] [hPre_fox_finite : Cert.Pre_fox_finite.Facts] : Prop :=
  ∀ (m : (ℓ : Loc Cert.FoxIdeal.nD Cert.FoxIdeal.τ Cert.FoxIdeal.sig) → Buf (Elt Ideal) ℓ) (g : Dev Cert.FoxIdeal.nD → PrngReg)
    (m' : (ℓ : Loc Cert.FoxRefIdeal.nD Cert.FoxRefIdeal.τ Cert.FoxRefIdeal.sig) → Buf (Elt Ideal) ℓ) (g' : Dev Cert.FoxRefIdeal.nD → PrngReg), Pre_FoxIdeal_fox_finite m →
    (∀ c : Dev Cert.FoxIdeal.nD,
      m' ((c.tc : Thread Cert.FoxRefIdeal.nD Cert.FoxRefIdeal.τ).loc Cert.FoxRefIdeal.main_arg0) = m ((c.tc : Thread Cert.FoxIdeal.nD Cert.FoxIdeal.τ).loc Cert.FoxIdeal.main_arg0)
      ∧ m' ((c.tc : Thread Cert.FoxRefIdeal.nD Cert.FoxRefIdeal.τ).loc Cert.FoxRefIdeal.main_arg1) = m ((c.tc : Thread Cert.FoxIdeal.nD Cert.FoxIdeal.τ).loc Cert.FoxIdeal.main_arg1)
      ∧ m' ((c.tc : Thread Cert.FoxRefIdeal.nD Cert.FoxRefIdeal.τ).loc Cert.FoxRefIdeal.main_arg2) = m ((c.tc : Thread Cert.FoxIdeal.nD Cert.FoxIdeal.τ).loc Cert.FoxIdeal.main_arg2)
      ∧ m' ((c.tc : Thread Cert.FoxRefIdeal.nD Cert.FoxRefIdeal.τ).loc Cert.FoxRefIdeal.main_arg3) = m ((c.tc : Thread Cert.FoxIdeal.nD Cert.FoxIdeal.τ).loc Cert.FoxIdeal.main_arg3)) →
    ∃ (v0 : (c : Dev Cert.FoxIdeal.nD) → Buf (Elt Ideal) ((c.tc : Thread Cert.FoxIdeal.nD Cert.FoxIdeal.τ).loc Cert.FoxIdeal.main_v0)),
      θ_run (Cert.FoxIdeal.defs (F := Ideal)) (onTc (τ := Cert.FoxIdeal.τ) (Cert.FoxIdeal.main (F := Ideal))) ⟨m, fun _ => 0, g⟩ (fun r => ∀ c : Dev Cert.FoxIdeal.nD,
          r.2.mem ((c.tc : Thread Cert.FoxIdeal.nD Cert.FoxIdeal.τ).loc Cert.FoxIdeal.main_v0) = v0 c
          ∧ r.2.mem ((c.tc : Thread Cert.FoxIdeal.nD Cert.FoxIdeal.τ).loc Cert.FoxIdeal.main_arg0) = m ((c.tc : Thread Cert.FoxIdeal.nD Cert.FoxIdeal.τ).loc Cert.FoxIdeal.main_arg0)
          ∧ r.2.mem ((c.tc : Thread Cert.FoxIdeal.nD Cert.FoxIdeal.τ).loc Cert.FoxIdeal.main_arg1) = m ((c.tc : Thread Cert.FoxIdeal.nD Cert.FoxIdeal.τ).loc Cert.FoxIdeal.main_arg1)
          ∧ r.2.mem ((c.tc : Thread Cert.FoxIdeal.nD Cert.FoxIdeal.τ).loc Cert.FoxIdeal.main_arg2) = m ((c.tc : Thread Cert.FoxIdeal.nD Cert.FoxIdeal.τ).loc Cert.FoxIdeal.main_arg2)
          ∧ r.2.mem ((c.tc : Thread Cert.FoxIdeal.nD Cert.FoxIdeal.τ).loc Cert.FoxIdeal.main_arg3) = m ((c.tc : Thread Cert.FoxIdeal.nD Cert.FoxIdeal.τ).loc Cert.FoxIdeal.main_arg3))
      ∧ θ_run (Cert.FoxRefIdeal.defs (F := Ideal)) (onTc (τ := Cert.FoxRefIdeal.τ) (Cert.FoxRefIdeal.main (F := Ideal))) ⟨m', fun _ => 0, g'⟩ (fun r => ∀ c : Dev Cert.FoxRefIdeal.nD,
          r.2.mem ((c.tc : Thread Cert.FoxRefIdeal.nD Cert.FoxRefIdeal.τ).loc Cert.FoxRefIdeal.main_v48) = v0 c
          ∧ r.2.mem ((c.tc : Thread Cert.FoxRefIdeal.nD Cert.FoxRefIdeal.τ).loc Cert.FoxRefIdeal.main_arg0) = m' ((c.tc : Thread Cert.FoxRefIdeal.nD Cert.FoxRefIdeal.τ).loc Cert.FoxRefIdeal.main_arg0)
          ∧ r.2.mem ((c.tc : Thread Cert.FoxRefIdeal.nD Cert.FoxRefIdeal.τ).loc Cert.FoxRefIdeal.main_arg1) = m' ((c.tc : Thread Cert.FoxRefIdeal.nD Cert.FoxRefIdeal.τ).loc Cert.FoxRefIdeal.main_arg1)
          ∧ r.2.mem ((c.tc : Thread Cert.FoxRefIdeal.nD Cert.FoxRefIdeal.τ).loc Cert.FoxRefIdeal.main_arg2) = m' ((c.tc : Thread Cert.FoxRefIdeal.nD Cert.FoxRefIdeal.τ).loc Cert.FoxRefIdeal.main_arg2)
          ∧ r.2.mem ((c.tc : Thread Cert.FoxRefIdeal.nD Cert.FoxRefIdeal.τ).loc Cert.FoxRefIdeal.main_arg3) = m' ((c.tc : Thread Cert.FoxRefIdeal.nD Cert.FoxRefIdeal.τ).loc Cert.FoxRefIdeal.main_arg3))

def preserves_PostEven_PostEvenIdeal : Prop :=
  True

def algebraic_PostEvenIdeal_PostEvenRefIdeal [hPostEvenIdeal : Cert.PostEvenIdeal.Facts] [hPostEvenRefIdeal : Cert.PostEvenRefIdeal.Facts] : Prop :=
  ∀ (m : (ℓ : Loc Cert.PostEvenIdeal.nD Cert.PostEvenIdeal.τ Cert.PostEvenIdeal.sig) → Buf (Elt Ideal) ℓ) (g : Dev Cert.PostEvenIdeal.nD → PrngReg)
    (m' : (ℓ : Loc Cert.PostEvenRefIdeal.nD Cert.PostEvenRefIdeal.τ Cert.PostEvenRefIdeal.sig) → Buf (Elt Ideal) ℓ) (g' : Dev Cert.PostEvenRefIdeal.nD → PrngReg), Pre_PostEvenIdeal m →
    (∀ c : Dev Cert.PostEvenIdeal.nD,
      m' ((c.tc : Thread Cert.PostEvenRefIdeal.nD Cert.PostEvenRefIdeal.τ).loc Cert.PostEvenRefIdeal.main_arg0) = m ((c.tc : Thread Cert.PostEvenIdeal.nD Cert.PostEvenIdeal.τ).loc Cert.PostEvenIdeal.main_arg0)
      ∧ m' ((c.tc : Thread Cert.PostEvenRefIdeal.nD Cert.PostEvenRefIdeal.τ).loc Cert.PostEvenRefIdeal.main_arg1) = m ((c.tc : Thread Cert.PostEvenIdeal.nD Cert.PostEvenIdeal.τ).loc Cert.PostEvenIdeal.main_arg1)
      ∧ m' ((c.tc : Thread Cert.PostEvenRefIdeal.nD Cert.PostEvenRefIdeal.τ).loc Cert.PostEvenRefIdeal.main_arg2) = m ((c.tc : Thread Cert.PostEvenIdeal.nD Cert.PostEvenIdeal.τ).loc Cert.PostEvenIdeal.main_arg2)
      ∧ m' ((c.tc : Thread Cert.PostEvenRefIdeal.nD Cert.PostEvenRefIdeal.τ).loc Cert.PostEvenRefIdeal.main_arg3) = m ((c.tc : Thread Cert.PostEvenIdeal.nD Cert.PostEvenIdeal.τ).loc Cert.PostEvenIdeal.main_arg3)
      ∧ m' ((c.tc : Thread Cert.PostEvenRefIdeal.nD Cert.PostEvenRefIdeal.τ).loc Cert.PostEvenRefIdeal.main_arg4) = m ((c.tc : Thread Cert.PostEvenIdeal.nD Cert.PostEvenIdeal.τ).loc Cert.PostEvenIdeal.main_arg4)
      ∧ m' ((c.tc : Thread Cert.PostEvenRefIdeal.nD Cert.PostEvenRefIdeal.τ).loc Cert.PostEvenRefIdeal.main_arg5) = m ((c.tc : Thread Cert.PostEvenIdeal.nD Cert.PostEvenIdeal.τ).loc Cert.PostEvenIdeal.main_arg5)
      ∧ m' ((c.tc : Thread Cert.PostEvenRefIdeal.nD Cert.PostEvenRefIdeal.τ).loc Cert.PostEvenRefIdeal.main_arg6) = m ((c.tc : Thread Cert.PostEvenIdeal.nD Cert.PostEvenIdeal.τ).loc Cert.PostEvenIdeal.main_arg6)
      ∧ m' ((c.tc : Thread Cert.PostEvenRefIdeal.nD Cert.PostEvenRefIdeal.τ).loc Cert.PostEvenRefIdeal.main_arg7) = m ((c.tc : Thread Cert.PostEvenIdeal.nD Cert.PostEvenIdeal.τ).loc Cert.PostEvenIdeal.main_arg7)) →
    ∃ (v0 : (c : Dev Cert.PostEvenIdeal.nD) → Buf (Elt Ideal) ((c.tc : Thread Cert.PostEvenIdeal.nD Cert.PostEvenIdeal.τ).loc Cert.PostEvenIdeal.main_v10)),
      θ_run (Cert.PostEvenIdeal.defs (F := Ideal)) (onTc (τ := Cert.PostEvenIdeal.τ) (Cert.PostEvenIdeal.main (F := Ideal))) ⟨m, fun _ => 0, g⟩ (fun r => ∀ c : Dev Cert.PostEvenIdeal.nD,
          r.2.mem ((c.tc : Thread Cert.PostEvenIdeal.nD Cert.PostEvenIdeal.τ).loc Cert.PostEvenIdeal.main_v10) = v0 c
          ∧ r.2.mem ((c.tc : Thread Cert.PostEvenIdeal.nD Cert.PostEvenIdeal.τ).loc Cert.PostEvenIdeal.main_arg0) = m ((c.tc : Thread Cert.PostEvenIdeal.nD Cert.PostEvenIdeal.τ).loc Cert.PostEvenIdeal.main_arg0)
          ∧ r.2.mem ((c.tc : Thread Cert.PostEvenIdeal.nD Cert.PostEvenIdeal.τ).loc Cert.PostEvenIdeal.main_arg1) = m ((c.tc : Thread Cert.PostEvenIdeal.nD Cert.PostEvenIdeal.τ).loc Cert.PostEvenIdeal.main_arg1)
          ∧ r.2.mem ((c.tc : Thread Cert.PostEvenIdeal.nD Cert.PostEvenIdeal.τ).loc Cert.PostEvenIdeal.main_arg2) = m ((c.tc : Thread Cert.PostEvenIdeal.nD Cert.PostEvenIdeal.τ).loc Cert.PostEvenIdeal.main_arg2)
          ∧ r.2.mem ((c.tc : Thread Cert.PostEvenIdeal.nD Cert.PostEvenIdeal.τ).loc Cert.PostEvenIdeal.main_arg3) = m ((c.tc : Thread Cert.PostEvenIdeal.nD Cert.PostEvenIdeal.τ).loc Cert.PostEvenIdeal.main_arg3)
          ∧ r.2.mem ((c.tc : Thread Cert.PostEvenIdeal.nD Cert.PostEvenIdeal.τ).loc Cert.PostEvenIdeal.main_arg4) = m ((c.tc : Thread Cert.PostEvenIdeal.nD Cert.PostEvenIdeal.τ).loc Cert.PostEvenIdeal.main_arg4)
          ∧ r.2.mem ((c.tc : Thread Cert.PostEvenIdeal.nD Cert.PostEvenIdeal.τ).loc Cert.PostEvenIdeal.main_arg5) = m ((c.tc : Thread Cert.PostEvenIdeal.nD Cert.PostEvenIdeal.τ).loc Cert.PostEvenIdeal.main_arg5)
          ∧ r.2.mem ((c.tc : Thread Cert.PostEvenIdeal.nD Cert.PostEvenIdeal.τ).loc Cert.PostEvenIdeal.main_arg6) = m ((c.tc : Thread Cert.PostEvenIdeal.nD Cert.PostEvenIdeal.τ).loc Cert.PostEvenIdeal.main_arg6)
          ∧ r.2.mem ((c.tc : Thread Cert.PostEvenIdeal.nD Cert.PostEvenIdeal.τ).loc Cert.PostEvenIdeal.main_arg7) = m ((c.tc : Thread Cert.PostEvenIdeal.nD Cert.PostEvenIdeal.τ).loc Cert.PostEvenIdeal.main_arg7))
      ∧ θ_run (Cert.PostEvenRefIdeal.defs (F := Ideal)) (onTc (τ := Cert.PostEvenRefIdeal.τ) (Cert.PostEvenRefIdeal.main (F := Ideal))) ⟨m', fun _ => 0, g'⟩ (fun r => ∀ c : Dev Cert.PostEvenRefIdeal.nD,
          r.2.mem ((c.tc : Thread Cert.PostEvenRefIdeal.nD Cert.PostEvenRefIdeal.τ).loc Cert.PostEvenRefIdeal.main_v30) = v0 c
          ∧ r.2.mem ((c.tc : Thread Cert.PostEvenRefIdeal.nD Cert.PostEvenRefIdeal.τ).loc Cert.PostEvenRefIdeal.main_arg0) = m' ((c.tc : Thread Cert.PostEvenRefIdeal.nD Cert.PostEvenRefIdeal.τ).loc Cert.PostEvenRefIdeal.main_arg0)
          ∧ r.2.mem ((c.tc : Thread Cert.PostEvenRefIdeal.nD Cert.PostEvenRefIdeal.τ).loc Cert.PostEvenRefIdeal.main_arg1) = m' ((c.tc : Thread Cert.PostEvenRefIdeal.nD Cert.PostEvenRefIdeal.τ).loc Cert.PostEvenRefIdeal.main_arg1)
          ∧ r.2.mem ((c.tc : Thread Cert.PostEvenRefIdeal.nD Cert.PostEvenRefIdeal.τ).loc Cert.PostEvenRefIdeal.main_arg2) = m' ((c.tc : Thread Cert.PostEvenRefIdeal.nD Cert.PostEvenRefIdeal.τ).loc Cert.PostEvenRefIdeal.main_arg2)
          ∧ r.2.mem ((c.tc : Thread Cert.PostEvenRefIdeal.nD Cert.PostEvenRefIdeal.τ).loc Cert.PostEvenRefIdeal.main_arg3) = m' ((c.tc : Thread Cert.PostEvenRefIdeal.nD Cert.PostEvenRefIdeal.τ).loc Cert.PostEvenRefIdeal.main_arg3)
          ∧ r.2.mem ((c.tc : Thread Cert.PostEvenRefIdeal.nD Cert.PostEvenRefIdeal.τ).loc Cert.PostEvenRefIdeal.main_arg4) = m' ((c.tc : Thread Cert.PostEvenRefIdeal.nD Cert.PostEvenRefIdeal.τ).loc Cert.PostEvenRefIdeal.main_arg4)
          ∧ r.2.mem ((c.tc : Thread Cert.PostEvenRefIdeal.nD Cert.PostEvenRefIdeal.τ).loc Cert.PostEvenRefIdeal.main_arg5) = m' ((c.tc : Thread Cert.PostEvenRefIdeal.nD Cert.PostEvenRefIdeal.τ).loc Cert.PostEvenRefIdeal.main_arg5)
          ∧ r.2.mem ((c.tc : Thread Cert.PostEvenRefIdeal.nD Cert.PostEvenRefIdeal.τ).loc Cert.PostEvenRefIdeal.main_arg6) = m' ((c.tc : Thread Cert.PostEvenRefIdeal.nD Cert.PostEvenRefIdeal.τ).loc Cert.PostEvenRefIdeal.main_arg6)
          ∧ r.2.mem ((c.tc : Thread Cert.PostEvenRefIdeal.nD Cert.PostEvenRefIdeal.τ).loc Cert.PostEvenRefIdeal.main_arg7) = m' ((c.tc : Thread Cert.PostEvenRefIdeal.nD Cert.PostEvenRefIdeal.τ).loc Cert.PostEvenRefIdeal.main_arg7))

def preserves_PostOdd_PostOddIdeal : Prop :=
  True

def algebraic_PostOddIdeal_PostOddRefIdeal [hPostOddIdeal : Cert.PostOddIdeal.Facts] [hPostOddRefIdeal : Cert.PostOddRefIdeal.Facts] : Prop :=
  ∀ (m : (ℓ : Loc Cert.PostOddIdeal.nD Cert.PostOddIdeal.τ Cert.PostOddIdeal.sig) → Buf (Elt Ideal) ℓ) (g : Dev Cert.PostOddIdeal.nD → PrngReg)
    (m' : (ℓ : Loc Cert.PostOddRefIdeal.nD Cert.PostOddRefIdeal.τ Cert.PostOddRefIdeal.sig) → Buf (Elt Ideal) ℓ) (g' : Dev Cert.PostOddRefIdeal.nD → PrngReg), Pre_PostOddIdeal m →
    (∀ c : Dev Cert.PostOddIdeal.nD,
      m' ((c.tc : Thread Cert.PostOddRefIdeal.nD Cert.PostOddRefIdeal.τ).loc Cert.PostOddRefIdeal.main_arg0) = m ((c.tc : Thread Cert.PostOddIdeal.nD Cert.PostOddIdeal.τ).loc Cert.PostOddIdeal.main_arg0)
      ∧ m' ((c.tc : Thread Cert.PostOddRefIdeal.nD Cert.PostOddRefIdeal.τ).loc Cert.PostOddRefIdeal.main_arg1) = m ((c.tc : Thread Cert.PostOddIdeal.nD Cert.PostOddIdeal.τ).loc Cert.PostOddIdeal.main_arg1)
      ∧ m' ((c.tc : Thread Cert.PostOddRefIdeal.nD Cert.PostOddRefIdeal.τ).loc Cert.PostOddRefIdeal.main_arg2) = m ((c.tc : Thread Cert.PostOddIdeal.nD Cert.PostOddIdeal.τ).loc Cert.PostOddIdeal.main_arg2)
      ∧ m' ((c.tc : Thread Cert.PostOddRefIdeal.nD Cert.PostOddRefIdeal.τ).loc Cert.PostOddRefIdeal.main_arg3) = m ((c.tc : Thread Cert.PostOddIdeal.nD Cert.PostOddIdeal.τ).loc Cert.PostOddIdeal.main_arg3)
      ∧ m' ((c.tc : Thread Cert.PostOddRefIdeal.nD Cert.PostOddRefIdeal.τ).loc Cert.PostOddRefIdeal.main_arg4) = m ((c.tc : Thread Cert.PostOddIdeal.nD Cert.PostOddIdeal.τ).loc Cert.PostOddIdeal.main_arg4)
      ∧ m' ((c.tc : Thread Cert.PostOddRefIdeal.nD Cert.PostOddRefIdeal.τ).loc Cert.PostOddRefIdeal.main_arg5) = m ((c.tc : Thread Cert.PostOddIdeal.nD Cert.PostOddIdeal.τ).loc Cert.PostOddIdeal.main_arg5)
      ∧ m' ((c.tc : Thread Cert.PostOddRefIdeal.nD Cert.PostOddRefIdeal.τ).loc Cert.PostOddRefIdeal.main_arg6) = m ((c.tc : Thread Cert.PostOddIdeal.nD Cert.PostOddIdeal.τ).loc Cert.PostOddIdeal.main_arg6)) →
    ∃ (v0 : (c : Dev Cert.PostOddIdeal.nD) → Buf (Elt Ideal) ((c.tc : Thread Cert.PostOddIdeal.nD Cert.PostOddIdeal.τ).loc Cert.PostOddIdeal.main_v10)),
      θ_run (Cert.PostOddIdeal.defs (F := Ideal)) (onTc (τ := Cert.PostOddIdeal.τ) (Cert.PostOddIdeal.main (F := Ideal))) ⟨m, fun _ => 0, g⟩ (fun r => ∀ c : Dev Cert.PostOddIdeal.nD,
          r.2.mem ((c.tc : Thread Cert.PostOddIdeal.nD Cert.PostOddIdeal.τ).loc Cert.PostOddIdeal.main_v10) = v0 c
          ∧ r.2.mem ((c.tc : Thread Cert.PostOddIdeal.nD Cert.PostOddIdeal.τ).loc Cert.PostOddIdeal.main_arg0) = m ((c.tc : Thread Cert.PostOddIdeal.nD Cert.PostOddIdeal.τ).loc Cert.PostOddIdeal.main_arg0)
          ∧ r.2.mem ((c.tc : Thread Cert.PostOddIdeal.nD Cert.PostOddIdeal.τ).loc Cert.PostOddIdeal.main_arg1) = m ((c.tc : Thread Cert.PostOddIdeal.nD Cert.PostOddIdeal.τ).loc Cert.PostOddIdeal.main_arg1)
          ∧ r.2.mem ((c.tc : Thread Cert.PostOddIdeal.nD Cert.PostOddIdeal.τ).loc Cert.PostOddIdeal.main_arg2) = m ((c.tc : Thread Cert.PostOddIdeal.nD Cert.PostOddIdeal.τ).loc Cert.PostOddIdeal.main_arg2)
          ∧ r.2.mem ((c.tc : Thread Cert.PostOddIdeal.nD Cert.PostOddIdeal.τ).loc Cert.PostOddIdeal.main_arg3) = m ((c.tc : Thread Cert.PostOddIdeal.nD Cert.PostOddIdeal.τ).loc Cert.PostOddIdeal.main_arg3)
          ∧ r.2.mem ((c.tc : Thread Cert.PostOddIdeal.nD Cert.PostOddIdeal.τ).loc Cert.PostOddIdeal.main_arg4) = m ((c.tc : Thread Cert.PostOddIdeal.nD Cert.PostOddIdeal.τ).loc Cert.PostOddIdeal.main_arg4)
          ∧ r.2.mem ((c.tc : Thread Cert.PostOddIdeal.nD Cert.PostOddIdeal.τ).loc Cert.PostOddIdeal.main_arg5) = m ((c.tc : Thread Cert.PostOddIdeal.nD Cert.PostOddIdeal.τ).loc Cert.PostOddIdeal.main_arg5)
          ∧ r.2.mem ((c.tc : Thread Cert.PostOddIdeal.nD Cert.PostOddIdeal.τ).loc Cert.PostOddIdeal.main_arg6) = m ((c.tc : Thread Cert.PostOddIdeal.nD Cert.PostOddIdeal.τ).loc Cert.PostOddIdeal.main_arg6))
      ∧ θ_run (Cert.PostOddRefIdeal.defs (F := Ideal)) (onTc (τ := Cert.PostOddRefIdeal.τ) (Cert.PostOddRefIdeal.main (F := Ideal))) ⟨m', fun _ => 0, g'⟩ (fun r => ∀ c : Dev Cert.PostOddRefIdeal.nD,
          r.2.mem ((c.tc : Thread Cert.PostOddRefIdeal.nD Cert.PostOddRefIdeal.τ).loc Cert.PostOddRefIdeal.main_v28) = v0 c
          ∧ r.2.mem ((c.tc : Thread Cert.PostOddRefIdeal.nD Cert.PostOddRefIdeal.τ).loc Cert.PostOddRefIdeal.main_arg0) = m' ((c.tc : Thread Cert.PostOddRefIdeal.nD Cert.PostOddRefIdeal.τ).loc Cert.PostOddRefIdeal.main_arg0)
          ∧ r.2.mem ((c.tc : Thread Cert.PostOddRefIdeal.nD Cert.PostOddRefIdeal.τ).loc Cert.PostOddRefIdeal.main_arg1) = m' ((c.tc : Thread Cert.PostOddRefIdeal.nD Cert.PostOddRefIdeal.τ).loc Cert.PostOddRefIdeal.main_arg1)
          ∧ r.2.mem ((c.tc : Thread Cert.PostOddRefIdeal.nD Cert.PostOddRefIdeal.τ).loc Cert.PostOddRefIdeal.main_arg2) = m' ((c.tc : Thread Cert.PostOddRefIdeal.nD Cert.PostOddRefIdeal.τ).loc Cert.PostOddRefIdeal.main_arg2)
          ∧ r.2.mem ((c.tc : Thread Cert.PostOddRefIdeal.nD Cert.PostOddRefIdeal.τ).loc Cert.PostOddRefIdeal.main_arg3) = m' ((c.tc : Thread Cert.PostOddRefIdeal.nD Cert.PostOddRefIdeal.τ).loc Cert.PostOddRefIdeal.main_arg3)
          ∧ r.2.mem ((c.tc : Thread Cert.PostOddRefIdeal.nD Cert.PostOddRefIdeal.τ).loc Cert.PostOddRefIdeal.main_arg4) = m' ((c.tc : Thread Cert.PostOddRefIdeal.nD Cert.PostOddRefIdeal.τ).loc Cert.PostOddRefIdeal.main_arg4)
          ∧ r.2.mem ((c.tc : Thread Cert.PostOddRefIdeal.nD Cert.PostOddRefIdeal.τ).loc Cert.PostOddRefIdeal.main_arg5) = m' ((c.tc : Thread Cert.PostOddRefIdeal.nD Cert.PostOddRefIdeal.τ).loc Cert.PostOddRefIdeal.main_arg5)
          ∧ r.2.mem ((c.tc : Thread Cert.PostOddRefIdeal.nD Cert.PostOddRefIdeal.τ).loc Cert.PostOddRefIdeal.main_arg6) = m' ((c.tc : Thread Cert.PostOddRefIdeal.nD Cert.PostOddRefIdeal.τ).loc Cert.PostOddRefIdeal.main_arg6))

def Claim : Prop :=
  ∃ (hKernel : Cert.Kernel.Facts) (hKernelIdeal : Cert.KernelIdeal.Facts) (hReferenceIdeal : Cert.ReferenceIdeal.Facts) (hFox : Cert.Fox.Facts) (hFoxIdeal : Cert.FoxIdeal.Facts) (hFoxRefIdeal : Cert.FoxRefIdeal.Facts) (hPostEven : Cert.PostEven.Facts) (hPostEvenIdeal : Cert.PostEvenIdeal.Facts) (hPostEvenRefIdeal : Cert.PostEvenRefIdeal.Facts) (hPostOdd : Cert.PostOdd.Facts) (hPostOddIdeal : Cert.PostOddIdeal.Facts) (hPostOddRefIdeal : Cert.PostOddRefIdeal.Facts) (hPre_finite : Cert.Pre_finite.Facts) (hPre_fox_finite : Cert.Pre_fox_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Fox (hFox := hFox)
    ∧ quiescent_FoxIdeal (hFoxIdeal := hFoxIdeal)
    ∧ quiescent_FoxIdeal_pre_fox_finite (hFoxIdeal := hFoxIdeal) (hPre_fox_finite := hPre_fox_finite)
    ∧ quiescent_FoxRefIdeal (hFoxRefIdeal := hFoxRefIdeal)
    ∧ quiescent_FoxRefIdeal_pre_fox_finite (hFoxRefIdeal := hFoxRefIdeal) (hPre_fox_finite := hPre_fox_finite)
    ∧ quiescent_PostEven (hPostEven := hPostEven)
    ∧ quiescent_PostEvenIdeal (hPostEvenIdeal := hPostEvenIdeal)
    ∧ quiescent_PostEvenRefIdeal (hPostEvenRefIdeal := hPostEvenRefIdeal)
    ∧ quiescent_PostOdd (hPostOdd := hPostOdd)
    ∧ quiescent_PostOddIdeal (hPostOddIdeal := hPostOddIdeal)
    ∧ quiescent_PostOddRefIdeal (hPostOddRefIdeal := hPostOddRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Fox_FoxIdeal
    ∧ algebraic_FoxIdeal_FoxRefIdeal_pre_fox_finite (hFoxIdeal := hFoxIdeal) (hFoxRefIdeal := hFoxRefIdeal) (hPre_fox_finite := hPre_fox_finite)
    ∧ preserves_PostEven_PostEvenIdeal
    ∧ algebraic_PostEvenIdeal_PostEvenRefIdeal (hPostEvenIdeal := hPostEvenIdeal) (hPostEvenRefIdeal := hPostEvenRefIdeal)
    ∧ preserves_PostOdd_PostOddIdeal
    ∧ algebraic_PostOddIdeal_PostOddRefIdeal (hPostOddIdeal := hPostOddIdeal) (hPostOddRefIdeal := hPostOddRefIdeal)
-- ==== Pre_finite.lean ====
abbrev S8x4x4096x128 : Shape := ⟨4, ![8, 4, 4096, 128]⟩
abbrev S8x4x128x4096 : Shape := ⟨4, ![8, 4, 128, 4096]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4x4096x128 : S_.BroadcastsInDim S8x4x4096x128 (![] : Fin 0 → Fin S8x4x4096x128.rank)
  bcast_S_S8x4x128x4096 : S_.BroadcastsInDim S8x4x128x4096 (![] : Fin 0 → Fin S8x4x128x4096.rank)
  bcast_S_S1x64 : S_.BroadcastsInDim S1x64 (![] : Fin 0 → Fin S1x64.rank)

variable [Facts]

def fn_part1 {F : FTy → Type} [FloatOps F] (main_arg6 : FVec F S1x64 .f32) (main_v3 : IVec S8x4x4096x128 1) (main_v7 : IVec S8x4x4096x128 1) (main_v11 : IVec S8x4x128x4096 1) (main_v14 : IVec S1x64 1) (main_v17 : IVec S1x64 1) (main_v18 : FVec F S1x64 .f32) : IVec S8x4x4096x128 1 × IVec S8x4x4096x128 1 × IVec S8x4x128x4096 1 × IVec S1x64 1 × IVec S1x64 1 × IVec S1x64 1 × IVec S1x64 1 :=
  let main_cst_4 : FVec F S_ .f32 := constant S_ .f32 0x7F800000#32
  let main_v19 : FVec F S1x64 .f32 := broadcastInDim S1x64 ![] bcast_S_S1x64 main_cst_4
  let main_v20 : IVec S1x64 1 := cmpf .olt main_v18 main_v19
  let main_v21 : FVec F S1x64 .f32 := Host.absf main_arg6
  let main_cst_5 : FVec F S_ .f32 := constant S_ .f32 0x7F800000#32
  let main_v22 : FVec F S1x64 .f32 := broadcastInDim S1x64 ![] bcast_S_S1x64 main_cst_5
  let main_v23 : IVec S1x64 1 := cmpf .olt main_v21 main_v22
  (main_v3, main_v7, main_v11, main_v14, main_v17, main_v20, main_v23)

def fn {F : FTy → Type} [FloatOps F] (main_arg0 : FVec F S8x4x4096x128 .bf16) (main_arg1 : FVec F S8x4x4096x128 .bf16) (main_arg2 : FVec F S8x4x128x4096 .bf16) (main_arg3 : FVec F S1x64 .f32) (main_arg4 : FVec F S1x64 .f32) (main_arg5 : FVec F S1x64 .f32) (main_arg6 : FVec F S1x64 .f32) (main_arg7 : FVec F S1x128 .f32) : IVec S8x4x4096x128 1 × IVec S8x4x4096x128 1 × IVec S8x4x128x4096 1 × IVec S1x64 1 × IVec S1x64 1 × IVec S1x64 1 × IVec S1x64 1 :=
  let main_v0 : FVec F S8x4x4096x128 .f32 := (extf .f32 · bitsLt_bf16_f32) main_arg0
  let main_v1 : FVec F S8x4x4096x128 .f32 := Host.absf main_v0
  let main_cst : FVec F S_ .f32 := constant S_ .f32 0x7F800000#32
  let main_v2 : FVec F S8x4x4096x128 .f32 := broadcastInDim S8x4x4096x128 ![] bcast_S_S8x4x4096x128 main_cst
  let main_v3 : IVec S8x4x4096x128 1 := cmpf .olt main_v1 main_v2
  let main_v4 : FVec F S8x4x4096x128 .f32 := (extf .f32 · bitsLt_bf16_f32) main_arg1
  let main_v5 : FVec F S8x4x4096x128 .f32 := Host.absf main_v4
  let main_cst_0 : FVec F S_ .f32 := constant S_ .f32 0x7F800000#32
  let main_v6 : FVec F S8x4x4096x128 .f32 := broadcastInDim S8x4x4096x128 ![] bcast_S_S8x4x4096x128 main_cst_0
  let main_v7 : IVec S8x4x4096x128 1 := cmpf .olt main_v5 main_v6
  let main_v8 : FVec F S8x4x128x4096 .f32 := (extf .f32 · bitsLt_bf16_f32) main_arg2
  let main_v9 : FVec F S8x4x128x4096 .f32 := Host.absf main_v8
  let main_cst_1 : FVec F S_ .f32 := constant S_ .f32 0x7F800000#32
  let main_v10 : FVec F S8x4x128x4096 .f32 := broadcastInDim S8x4x128x4096 ![] bcast_S_S8x4x128x4096 main_cst_1
  let main_v11 : IVec S8x4x128x4096 1 := cmpf .olt main_v9 main_v10
  let main_v12 : FVec F S1x64 .f32 := Host.absf main_arg3
  let main_cst_2 : FVec F S_ .f32 := constant S_ .f32 0x7F800000#32
  let main_v13 : FVec F S1x64 .f32 := broadcastInDim S1x64 ![] bcast_S_S1x64 main_cst_2
  let main_v14 : IVec S1x64 1 := cmpf .olt main_v12 main_v13
  let main_v15 : FVec F S1x64 .f32 := Host.absf main_arg4
  let main_cst_3 : FVec F S_ .f32 := constant S_ .f32 0x7F800000#32
  let main_v16 : FVec F S1x64 .f32 := broadcastInDim S1x64 ![] bcast_S_S1x64 main_cst_3
  let main_v17 : IVec S1x64 1 := cmpf .olt main_v15 main_v16
  let main_v18 : FVec F S1x64 .f32 := Host.absf main_arg5
  fn_part1 (F := F) main_arg6 main_v3 main_v7 main_v11 main_v14 main_v17 main_v18
-- ==== Pre_fox_finite.lean ====
abbrev S8x4x4096x128 : Shape := ⟨4, ![8, 4, 4096, 128]⟩
abbrev S8x4x128x4096 : Shape := ⟨4, ![8, 4, 128, 4096]⟩
abbrev S_ : Shape := ⟨0, ![]⟩

class Facts : Prop where
  bitsLt_bf16_f32 : FTy.bits .bf16 < FTy.bits .f32
  bcast_S_S8x4x4096x128 : S_.BroadcastsInDim S8x4x4096x128 (![] : Fin 0 → Fin S8x4x4096x128.rank)
  bcast_S_S8x4x128x4096 : S_.BroadcastsInDim S8x4x128x4096 (![] : Fin 0 → Fin S8x4x128x4096.rank)

variable [Facts]

def fn {F : FTy → Type} [FloatOps F] (main_arg0 : FVec F S8x4x4096x128 .bf16) (main_arg1 : FVec F S8x4x4096x128 .bf16) (main_arg2 : FVec F S8x4x128x4096 .bf16) (main_arg3 : FVec F S8x4x4096x128 .bf16) : IVec S8x4x4096x128 1 × IVec S8x4x4096x128 1 × IVec S8x4x128x4096 1 × IVec S8x4x4096x128 1 :=
  let main_v0 : FVec F S8x4x4096x128 .f32 := (extf .f32 · bitsLt_bf16_f32) main_arg0
  let main_v1 : FVec F S8x4x4096x128 .f32 := Host.absf main_v0
  let main_cst : FVec F S_ .f32 := constant S_ .f32 0x7F800000#32
  let main_v2 : FVec F S8x4x4096x128 .f32 := broadcastInDim S8x4x4096x128 ![] bcast_S_S8x4x4096x128 main_cst
  let main_v3 : IVec S8x4x4096x128 1 := cmpf .olt main_v1 main_v2
  let main_v4 : FVec F S8x4x4096x128 .f32 := (extf .f32 · bitsLt_bf16_f32) main_arg1
  let main_v5 : FVec F S8x4x4096x128 .f32 := Host.absf main_v4
  let main_cst_0 : FVec F S_ .f32 := constant S_ .f32 0x7F800000#32
  let main_v6 : FVec F S8x4x4096x128 .f32 := broadcastInDim S8x4x4096x128 ![] bcast_S_S8x4x4096x128 main_cst_0
  let main_v7 : IVec S8x4x4096x128 1 := cmpf .olt main_v5 main_v6
  let main_v8 : FVec F S8x4x128x4096 .f32 := (extf .f32 · bitsLt_bf16_f32) main_arg2
  let main_v9 : FVec F S8x4x128x4096 .f32 := Host.absf main_v8
  let main_cst_1 : FVec F S_ .f32 := constant S_ .f32 0x7F800000#32
  let main_v10 : FVec F S8x4x128x4096 .f32 := broadcastInDim S8x4x128x4096 ![] bcast_S_S8x4x128x4096 main_cst_1
  let main_v11 : IVec S8x4x128x4096 1 := cmpf .olt main_v9 main_v10
  let main_v12 : FVec F S8x4x4096x128 .f32 := (extf .f32 · bitsLt_bf16_f32) main_arg3
  let main_v13 : FVec F S8x4x4096x128 .f32 := Host.absf main_v12
  let main_cst_2 : FVec F S_ .f32 := constant S_ .f32 0x7F800000#32
  let main_v14 : FVec F S8x4x4096x128 .f32 := broadcastInDim S8x4x4096x128 ![] bcast_S_S8x4x4096x128 main_cst_2
  let main_v15 : IVec S8x4x4096x128 1 := cmpf .olt main_v13 main_v14
  (main_v3, main_v7, main_v11, main_v15)
-- ==== Kernel.lean ====
abbrev S8x4x4096x128 : Shape := ⟨4, ![8, 4, 4096, 128]⟩
abbrev S8x4x128x4096 : Shape := ⟨4, ![8, 4, 128, 4096]⟩
abbrev S1x64 : Shape := ⟨2, ![1, 64]⟩
abbrev S1x128 : Shape := ⟨2, ![1, 128]⟩
abbrev S64 : Shape := ⟨1, ![64]⟩
abbrev S4x64 : Shape := ⟨2, ![4, 64]⟩
abbrev S_ : Shape := ⟨0, ![]⟩
abbrev S8x128 : Shape := ⟨2, ![8, 128]⟩
abbrev S128 : Shape := ⟨1, ![128]⟩
abbrev S128x1 : Shape := ⟨2, ![128, 1]⟩
abbrev S1x1x4096x128 : Shape := ⟨4, ![1, 1, 4096, 128]⟩
abbrev S1x1x128x4096 : Shape := ⟨4, ![1, 1, 128, 4096]⟩
abbrev S8x144x1024 : Shape := ⟨3, ![8, 144, 1024]⟩
abbrev S8x1x1024 : Shape := ⟨3, ![8, 1, 1024]⟩
abbrev S1 : Shape := ⟨1, ![1]⟩
abbrev S1x1 : Shape := ⟨2, ![1, 1]⟩
abbrev S512x128 : Shape := ⟨2, ![512, 128]⟩
abbrev S1x1x512x128 : Shape := ⟨4, ![1, 1, 512, 128]⟩
abbrev S1024x128 : Shape := ⟨2, ![1024, 128]⟩
abbrev S1x1024 : Shape := ⟨2, ![1, 1024]⟩
abbrev S1x1x1024 : Shape := ⟨3, ![1, 1, 1024]⟩
abbrev S144x1024 : Shape := ⟨2, ![144, 1024]⟩
abbrev S1x144x1024 : Shape := ⟨3, ![1, 144, 1024]⟩
abbrev S512x1024 : Shape := ⟨2, ![512, 1024]⟩
abbrev S1x1x128x512 : Shape := ⟨4, ![1, 1, 128, 512]⟩
abbrev S128x512 : Shape := ⟨2, ![128, 512]⟩
abbrev S16x512 : Shape := ⟨2, ![16, 512]⟩
abbrev S144x512 : Shape := ⟨2, ![144, 512]⟩
abbrev S1024 : Shape := ⟨1, ![1024]⟩
abbrev S1x128x1024 : Shape := ⟨3, ![1, 128, 1024]⟩
abbrev S128x1024 : Shape := ⟨2, ![128, 1024]⟩
abbrev S512 : Shape := ⟨1, ![512]⟩
abbrev S1x512 : Shape := ⟨2, ![1, 512]⟩

abbrev nBuf : Space → Nat
  | .hbm => 23
  | .vmem => 12
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S8x4x128x4096, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S_, .i32⟩
  | .hbm, ⟨18, _⟩ => ⟨S_, .f32⟩
  | .hbm, ⟨19, _⟩ => ⟨S8x128, .f32⟩
  | .hbm, ⟨20, _⟩ => ⟨S128, .f32⟩
  | .hbm, ⟨21, _⟩ => ⟨S128x1, .f32⟩
  | .hbm, ⟨22, _⟩ => ⟨S8x4x4096x128, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S8x128, .f32⟩
  | .local _ .vmem, ⟨7, _⟩ => ⟨S128x1, .f32⟩
  | .local _ .vmem, ⟨8, _⟩ => ⟨S1x1x4096x128, .bf16⟩
  | .local _ .vmem, ⟨9, _⟩ => ⟨S1x1x4096x128, .bf16⟩
  | .local _ .vmem, ⟨10, _⟩ => ⟨S8x144x1024, .f32⟩
  | .local _ .vmem, ⟨11, _⟩ => ⟨S8x1x1024, .f32⟩
  | _, _ => ⟨S8x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_call0_v0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "qscale" => some (((8 * (Real.log 2))⁻¹ : ℝ) : EReal)
  | _ => none
-- ==== ReferenceIdeal.lean ====
abbrev S8x4x4096x128 : Shape := ⟨4, ![8, 4, 4096, 128]⟩
abbrev S8x4x128x4096 : Shape := ⟨4, ![8, 4, 128, 4096]⟩
abbrev S1x64 : Shape := ⟨2, ![1, 64]⟩
abbrev S1x128 : Shape := ⟨2, ![1, 128]⟩
abbrev S_ : Shape := ⟨0, ![]⟩
abbrev S64 : Shape := ⟨1, ![64]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x4096x64 : Shape := ⟨4, ![8, 4, 4096, 64]⟩
abbrev S8x4x4096x4096 : Shape := ⟨4, ![8, 4, 4096, 4096]⟩
abbrev S8x4x4096 : Shape := ⟨3, ![8, 4, 4096]⟩
abbrev S8x4x4096x1 : Shape := ⟨4, ![8, 4, 4096, 1]⟩
abbrev S128 : Shape := ⟨1, ![128]⟩
abbrev S1x1x1x128 : Shape := ⟨4, ![1, 1, 1, 128]⟩

abbrev nBuf : Space → Nat
  | .hbm => 105
  | .vmem => 0
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S8x4x128x4096, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S8x4x4096x128, .f32⟩
  | .hbm, ⟨9, _⟩ => ⟨S8x4x4096x128, .f32⟩
  | .hbm, ⟨10, _⟩ => ⟨S8x4x4096x128, .bf16⟩
  | .hbm, ⟨11, _⟩ => ⟨S8x4x4096x128, .f32⟩
  | .hbm, ⟨12, _⟩ => ⟨S_, .f32⟩
  | .hbm, ⟨13, _⟩ => ⟨S8x4x4096x128, .f32⟩
  | .hbm, ⟨14, _⟩ => ⟨S8x4x4096x128, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S64, .f32⟩
  | .hbm, ⟨23, _⟩ => ⟨S64, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4096, .i32⟩
  | .hbm, ⟨31, _⟩ => ⟨S4096x1, .i32⟩
  | .hbm, ⟨32, _⟩ => ⟨S1x4096, .i32⟩
  | .hbm, ⟨33, _⟩ => ⟨S4096x4096, .i32⟩
  | .hbm, ⟨34, _⟩ => ⟨S4096x4096, .i32⟩
  | .hbm, ⟨35, _⟩ => ⟨S4096x4096, .i1⟩
  | .hbm, ⟨36, _⟩ => ⟨S8x4x4096x64, .f32⟩
  | .hbm, ⟨37, _⟩ => ⟨S8x4x4096x64, .f32⟩
  | .hbm, ⟨38, _⟩ => ⟨S8x4x4096x4096, .f32⟩
  | .hbm, ⟨39, _⟩ => ⟨S_, .f32⟩
  | .hbm, ⟨40, _⟩ => ⟨S_, .f32⟩
  | .hbm, ⟨41, _⟩ => ⟨S8x4x4096x4096, .i1⟩
  | .hbm, ⟨42, _⟩ => ⟨S8x4x4096x4096, .f32⟩
  | .hbm, ⟨43, _⟩ => ⟨S8x4x4096x4096, .f32⟩
  | .hbm, ⟨44, _⟩ => ⟨S_, .f32⟩
  | .hbm, ⟨45, _⟩ => ⟨S8x4x4096, .f32⟩
  | .hbm, ⟨46, _⟩ => ⟨S_, .f32⟩
  | .hbm, ⟨47, _⟩ => ⟨S8x4x4096, .f32⟩
  | .hbm, ⟨48, _⟩ => ⟨S8x4x4096, .f32⟩
  | .hbm, ⟨49, _⟩ => ⟨S8x4x4096x1, .f32⟩
  | .hbm, ⟨50, _⟩ => ⟨S8x4x4096x4096, .f32⟩
  | .hbm, ⟨51, _⟩ => ⟨S8x4x4096x4096, .f32⟩
  | .hbm, ⟨52, _⟩ => ⟨S8x4x4096x4096, .f32⟩
  | .hbm, ⟨53, _⟩ => ⟨S_, .f32⟩
  | .hbm, ⟨54, _⟩ => ⟨S8x4x4096, .f32⟩
  | .hbm, ⟨55, _⟩ => ⟨S8x4x4096x1, .f32⟩
  | .hbm, ⟨56, _⟩ => ⟨S8x4x4096x4096, .f32⟩
  | .hbm, ⟨57, _⟩ => ⟨S8x4x4096x4096, .f32⟩
  | .hbm, ⟨58, _⟩ => ⟨S8x4x4096x64, .f32⟩
  | .hbm, ⟨59, _⟩ => ⟨S8x4x4096x64, .f32⟩
  | .hbm, ⟨60, _⟩ => ⟨S8x4x4096x4096, .f32⟩
  | .hbm, ⟨61, _⟩ => ⟨S_, .f32⟩
  | .hbm, ⟨62, _⟩ => ⟨S_, .f32⟩
  | .hbm, ⟨63, _⟩ => ⟨S8x4x4096x4096, .i1⟩
  | .hbm, ⟨64, _⟩ => ⟨S8x4x4096x4096, .f32⟩
  | .hbm, ⟨65, _⟩ => ⟨S8x4x4096x4096, .f32⟩
  | .hbm, ⟨66, _⟩ => ⟨S_, .f32⟩
  | .hbm, ⟨67, _⟩ => ⟨S8x4x4096, .f32⟩
  | .hbm, ⟨68, _⟩ => ⟨S_, .f32⟩
  | .hbm, ⟨69, _⟩ => ⟨S8x4x4096, .f32⟩
  | .hbm, ⟨70, _⟩ => ⟨S8x4x4096, .f32⟩
  | .hbm, ⟨71, _⟩ => ⟨S8x4x4096x1, .f32⟩
  | .hbm, ⟨72, _⟩ => ⟨S8x4x4096x4096, .f32⟩
  | .hbm, ⟨73, _⟩ => ⟨S8x4x4096x4096, .f32⟩
  | .hbm, ⟨74, _⟩ => ⟨S8x4x4096x4096, .f32⟩
  | .hbm, ⟨75, _⟩ => ⟨S_, .f32⟩
  | .hbm, ⟨76, _⟩ => ⟨S8x4x4096, .f32⟩
  | .hbm, ⟨77, _⟩ => ⟨S8x4x4096x1, .f32⟩
  | .hbm, ⟨78, _⟩ => ⟨S8x4x4096x4096, .f32⟩
  | .hbm, ⟨79, _⟩ => ⟨S8x4x4096x4096, .f32⟩
  | .hbm, ⟨80, _⟩ => ⟨S8x4x4096x4096, .f32⟩
  | .hbm, ⟨81, _⟩ => ⟨S8x4x4096x4096, .f32⟩
  | .hbm, ⟨82, _⟩ => ⟨S8x4x4096x4096, .f32⟩
  | .hbm, ⟨83, _⟩ => ⟨S8x4x4096x128, .f32⟩
  | .hbm, ⟨84, _⟩ => ⟨S8x4x4096x128, .f32⟩
  | .hbm, ⟨85, _⟩ => ⟨S_, .f32⟩
  | .hbm, ⟨86, _⟩ => ⟨S8x4x4096, .f32⟩
  | .hbm, ⟨87, _⟩ => ⟨S8x4x4096x1, .f32⟩
  | .hbm, ⟨88, _⟩ => ⟨S_, .f32⟩
  | .hbm, ⟨89, _⟩ => ⟨S8x4x4096x1, .f32⟩
  | .hbm, ⟨90, _⟩ => ⟨S8x4x4096x1, .f32⟩
  | .hbm, ⟨91, _⟩ => ⟨S_, .f32⟩
  | .hbm, ⟨92, _⟩ => ⟨S8x4x4096x1, .f32⟩
  | .hbm, ⟨93, _⟩ => ⟨S8x4x4096x1, .f32⟩
  | .hbm, ⟨94, _⟩ => ⟨S8x4x4096x1, .f32⟩
  | .hbm, ⟨95, _⟩ => ⟨S8x4x4096x128, .f32⟩
  | .hbm, ⟨96, _⟩ => ⟨S8x4x4096x128, .f32⟩
  | .hbm, ⟨97, _⟩ => ⟨S128, .f32⟩
  | .hbm, ⟨98, _⟩ => ⟨S1x1x1x128, .f32⟩
  | .hbm, ⟨99, _⟩ => ⟨S8x4x4096x128, .f32⟩
  | .hbm, ⟨100, _⟩ => ⟨S8x4x4096x128, .f32⟩
  | .hbm, ⟨101, _⟩ => ⟨S_, .f32⟩
  | .hbm, ⟨102, _⟩ => ⟨S8x4x4096x128, .f32⟩
  | .hbm, ⟨103, _⟩ => ⟨S8x4x4096x128, .f32⟩
  | .hbm, ⟨104, _⟩ => ⟨S8x4x4096x128, .bf16⟩
  | _, _ => ⟨S8x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_3 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_cst_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_6 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_call1_v0 : Ref sig .tc := ⟨.hbm, 62, rfl⟩
abbrev main_call1_v1 : Ref sig .tc := ⟨.hbm, 63, rfl⟩
abbrev main_call1_v2 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_11 : Ref sig .tc := ⟨.hbm, 85, rfl⟩
abbrev main_v59 : Ref sig .tc := ⟨.hbm, 86, rfl⟩
abbrev main_v60 : Ref sig .tc := ⟨.hbm, 87, rfl⟩
abbrev main_cst_12 : Ref sig .tc := ⟨.hbm, 88, rfl⟩
abbrev main_v61 : Ref sig .tc := ⟨.hbm, 89, rfl⟩
abbrev main_v62 : Ref sig .tc := ⟨.hbm, 90, rfl⟩
abbrev main_cst_13 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_14 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Fox.lean ====
abbrev S8x4x4096x128 : Shape := ⟨4, ![8, 4, 4096, 128]⟩
abbrev S8x4x128x4096 : Shape := ⟨4, ![8, 4, 128, 4096]⟩
abbrev S1x1x4096x128 : Shape := ⟨4, ![1, 1, 4096, 128]⟩
abbrev S1x1x128x4096 : Shape := ⟨4, ![1, 1, 128, 4096]⟩
abbrev S8x144x512 : Shape := ⟨3, ![8, 144, 512]⟩
abbrev S8x1x512 : Shape := ⟨3, ![8, 1, 512]⟩
abbrev S512x128 : Shape := ⟨2, ![512, 128]⟩
abbrev S1x1x512x128 : Shape := ⟨4, ![1, 1, 512, 128]⟩
abbrev S512x256 : Shape := ⟨2, ![512, 256]⟩
abbrev S1x512 : Shape := ⟨2, ![1, 512]⟩
abbrev S1x1x512 : Shape := ⟨3, ![1, 1, 512]⟩
abbrev S144x512 : Shape := ⟨2, ![144, 512]⟩
abbrev S1x144x512 : Shape := ⟨3, ![1, 144, 512]⟩
abbrev S512x512 : Shape := ⟨2, ![512, 512]⟩
abbrev S1x1x128x512 : Shape := ⟨4, ![1, 1, 128, 512]⟩
abbrev S128x512 : Shape := ⟨2, ![128, 512]⟩
abbrev S16x512 : Shape := ⟨2, ![16, 512]⟩
abbrev S512 : Shape := ⟨1, ![512]⟩
abbrev S1x128x512 : Shape := ⟨3, ![1, 128, 512]⟩

abbrev nBuf : Space → Nat
  | .hbm => 5
  | .vmem => 12
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S8x4x128x4096, .bf16⟩
  | .hbm, ⟨3, _⟩ => ⟨S8x4x4096x128, .bf16⟩
  | .hbm, ⟨4, _⟩ => ⟨S8x4x4096x128, .bf16⟩
  | .local _ .vmem, ⟨0, _⟩ => ⟨S1x1x4096x128, .bf16⟩
  | .local _ .vmem, ⟨1, _⟩ => ⟨S1x1x4096x128, .bf16⟩
  | .local _ .vmem, ⟨2, _⟩ => ⟨S1x1x4096x128, .bf16⟩
  | .local _ .vmem, ⟨3, _⟩ => ⟨S1x1x4096x128, .bf16⟩
  | .local _ .vmem, ⟨4, _⟩ => ⟨S1x1x128x4096, .bf16⟩
  | .local _ .vmem, ⟨5, _⟩ => ⟨S1x1x128x4096, .bf16⟩
  | .local _ .vmem, ⟨6, _⟩ => ⟨S1x1x4096x128, .bf16⟩
  | .local _ .vmem, ⟨7, _⟩ => ⟨S1x1x4096x128, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S8x144x512, .f32⟩
  | .local _ .vmem, ⟨11, _⟩ => ⟨S8x1x512, .f32⟩
  | _, _ => ⟨S8x4x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4096x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FoxIdeal.lean ====
variable {F : FTy → Type} [FloatOps F] [Named F]
def κ : String → Option EReal := fun
  | "fscale" => some ((((Real.sqrt 128) * (Real.log 2))⁻¹ : ℝ) : EReal)
  | _ => none
-- ==== FoxRefIdeal.lean ====
abbrev S8x4x4096x128 : Shape := ⟨4, ![8, 4, 4096, 128]⟩
abbrev S8x4x128x4096 : Shape := ⟨4, ![8, 4, 128, 4096]⟩
abbrev S_ : Shape := ⟨0, ![]⟩
abbrev S8x4x4096x1 : Shape := ⟨4, ![8, 4, 4096, 1]⟩
abbrev S8x4x4096 : Shape := ⟨3, ![8, 4, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S8x4x4096x4096 : Shape := ⟨4, ![8, 4, 4096, 4096]⟩
abbrev S8x4x1x4096 : Shape := ⟨4, ![8, 4, 1, 4096]⟩

abbrev nBuf : Space → Nat
  | .hbm => 62
  | .vmem => 0
  | .smem => 0
  | _ => 0

abbrev bufTy : (tb : Table) → Fin (tcTables nBuf tb) → BufTy
  | .hbm, ⟨0, _⟩ => ⟨S8x4x4096x128, .bf16⟩
  | .hbm, ⟨1, _⟩ => ⟨S8x4x4096x128, .bf16⟩
  | .hbm, ⟨2, _⟩ => ⟨S8x4x128x4096, .bf16⟩
  | .hbm, ⟨3, _⟩ => ⟨S8x4x4096x128, .bf16⟩
  | .hbm, ⟨4, _⟩ => ⟨S8x4x4096x128, .f32⟩
  | .hbm, ⟨5, _⟩ => ⟨S8x4x4096x128, .f32⟩
  | .hbm, ⟨6, _⟩ => ⟨S8x4x4096x128, .bf16⟩
  | .hbm, ⟨7, _⟩ => ⟨S8x4x4096x128, .f32⟩
  | .hbm, ⟨8, _⟩ => ⟨S_, .f32⟩
  | .hbm, ⟨9, _⟩ => ⟨S_, .f32⟩
  | .hbm, ⟨10, _⟩ => ⟨S8x4x4096x128, .f32⟩
  | .hbm, ⟨11, _⟩ => ⟨S8x4x4096x128, .f32⟩
  | .hbm, ⟨12, _⟩ => ⟨S8x4x4096x1, .bf16⟩
  | .hbm, ⟨13, _⟩ => ⟨S8x4x4096, .bf16⟩
  | .hbm, ⟨14, _⟩ => ⟨S8x4x4096, .f32⟩
  | .hbm, ⟨15, _⟩ => ⟨S8x4x4096x1, .bf16⟩
  | .hbm, ⟨16, _⟩ => ⟨S8x4x4096, .bf16⟩
  | .hbm, ⟨17, _⟩ => ⟨S8x4x4096, .f32⟩
  | .hbm, ⟨18, _⟩ => ⟨S8x4x4096, .f32⟩
  | .hbm, ⟨19, _⟩ => ⟨S8x4x4096x1, .bf16⟩
  | .hbm, ⟨20, _⟩ => ⟨S8x4x4096, .bf16⟩
  | .hbm, ⟨21, _⟩ => ⟨S8x4x4096, .f32⟩
  | .hbm, ⟨22, _⟩ => ⟨S8x4x4096, .f32⟩
  | .hbm, ⟨23, _⟩ => ⟨S8x4x4096, .f32⟩
  | .hbm, ⟨24, _⟩ => ⟨S_, .f32⟩
  | .hbm, ⟨25, _⟩ => ⟨S_, .f32⟩
  | .hbm, ⟨26, _⟩ => ⟨S8x4x4096, .f32⟩
  | .hbm, ⟨27, _⟩ => ⟨S8x4x4096, .f32⟩
  | .hbm, ⟨28, _⟩ => ⟨S4096, .i32⟩
  | .hbm, ⟨29, _⟩ => ⟨S4096x1, .i32⟩
  | .hbm, ⟨30, _⟩ => ⟨S1x4096, .i32⟩
  | .hbm, ⟨31, _⟩ => ⟨S4096x4096, .i32⟩
  | .hbm, ⟨32, _⟩ => ⟨S4096x4096, .i32⟩
  | .hbm, ⟨33, _⟩ => ⟨S4096x4096, .i1⟩
  | .hbm, ⟨34, _⟩ => ⟨S8x4x4096x4096, .f32⟩
  | .hbm, ⟨35, _⟩ => ⟨S8x4x4096x1, .f32⟩
  | .hbm, ⟨36, _⟩ => ⟨S8x4x4096x4096, .f32⟩
  | .hbm, ⟨37, _⟩ => ⟨S8x4x4096x4096, .f32⟩
  | .hbm, ⟨38, _⟩ => ⟨S8x4x1x4096, .f32⟩
  | .hbm, ⟨39, _⟩ => ⟨S8x4x4096x4096, .f32⟩
  | .hbm, ⟨40, _⟩ => ⟨S8x4x4096x4096, .f32⟩
  | .hbm, ⟨41, _⟩ => ⟨S_, .f32⟩
  | .hbm, ⟨42, _⟩ => ⟨S_, .f32⟩
  | .hbm, ⟨43, _⟩ => ⟨S8x4x4096x4096, .i1⟩
  | .hbm, ⟨44, _⟩ => ⟨S8x4x4096x4096, .f32⟩
  | .hbm, ⟨45, _⟩ => ⟨S8x4x4096x4096, .f32⟩
  | .hbm, ⟨46, _⟩ => ⟨S_, .f32⟩
  | .hbm, ⟨47, _⟩ => ⟨S8x4x4096, .f32⟩
  | .hbm, ⟨48, _⟩ => ⟨S_, .f32⟩
  | .hbm, ⟨49, _⟩ => ⟨S8x4x4096, .f32⟩
  | .hbm, ⟨50, _⟩ => ⟨S8x4x4096, .f32⟩
  | .hbm, ⟨51, _⟩ => ⟨S8x4x4096x1, .f32⟩
  | .hbm, ⟨52, _⟩ => ⟨S8x4x4096x4096, .f32⟩
  | .hbm, ⟨53, _⟩ => ⟨S8x4x4096x4096, .f32⟩
  | .hbm, ⟨54, _⟩ => ⟨S8x4x4096x4096, .f32⟩
  | .hbm, ⟨55, _⟩ => ⟨S_, .f32⟩
  | .hbm, ⟨56, _⟩ => ⟨S8x4x4096, .f32⟩
  | .hbm, ⟨57, _⟩ => ⟨S8x4x4096x1, .f32⟩
  | .hbm, ⟨58, _⟩ => ⟨S8x4x4096x4096, .f32⟩
  | .hbm, ⟨59, _⟩ => ⟨S8x4x4096x4096, .f32⟩
  | .hbm, ⟨60, _⟩ => ⟨S8x4x4096x128, .f32⟩
  | .hbm, ⟨61, _⟩ => ⟨S8x4x4096x128, .bf16⟩
  | _, _ => ⟨S8x4x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_1 : Ref sig .tc := ⟨.hbm, 41, rfl⟩
abbrev main_call0_v0 : Ref sig .tc := ⟨.hbm, 42, rfl⟩
abbrev main_call0_v1 : Ref sig .tc := ⟨.hbm, 43, rfl⟩
abbrev main_call0_v2 : Ref sig .tc := ⟨.hbm, 44, rfl⟩
abbrev main_v35 : Ref sig .tc := ⟨.hbm, 45, rfl⟩
abbrev main_cst_2 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_4 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩

abbrev nD : Nat := 1
abbrev τ : Topo := Topo.v7x

variable {F : FTy → Type} [FloatOps F]
-- ==== PostEven.lean ====
abbrev S8x4096x1024 : Shape := ⟨3, ![8, 4096, 1024]⟩
abbrev S8x4x4096x128 : Shape := ⟨4, ![8, 4, 4096, 128]⟩
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024x1024 : Shape := ⟨3, ![2, 1024, 1024]⟩
abbrev S2x256x1024 : Shape := ⟨3, ![2, 256, 1024]⟩
abbrev S2x32768x256 : Shape := ⟨3, ![2, 32768, 256]⟩
abbrev S1024x1024 : Shape := ⟨2, ![1024, 1024]⟩
abbrev S1x256x1024 : Shape := ⟨3, ![1, 256, 1024]⟩
abbrev S256x1024 : Shape := ⟨2, ![256, 1024]⟩
abbrev S512x1024 : Shape := ⟨2, ![512, 1024]⟩
abbrev S1x4x512x128 : Shape := ⟨4, ![1, 4, 512, 128]⟩
abbrev S1x512x256 : Shape := ⟨3, ![1, 512, 256]⟩
abbrev S1x1x512x128 : Shape := ⟨4, ![1, 1, 512, 128]⟩
abbrev S512x128 : Shape := ⟨2, ![512, 128]⟩
abbrev S512x256 : Shape := ⟨2, ![512, 256]⟩
abbrev S1024x512 : Shape := ⟨2, ![1024, 512]⟩
abbrev S512x512 : Shape := ⟨2, ![512, 512]⟩
abbrev S256x512 : Shape := ⟨2, ![256, 512]⟩

abbrev nBuf : Space → Nat
  | .hbm => 19
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x128, .bf16⟩
  | .hbm, ⟨2, _⟩ => ⟨S8x4x4096x128, .bf16⟩
  | .hbm, ⟨3, _⟩ => ⟨S32768x1024, .bf16⟩
  | .hbm, ⟨4, _⟩ => ⟨S2x8x4096x256, .f32⟩
  | .hbm, ⟨5, _⟩ => ⟨S1x1024x1024, .f32⟩
  | .hbm, ⟨6, _⟩ => ⟨S2x1024x1024, .f32⟩
  | .hbm, ⟨7, _⟩ => ⟨S2x256x1024, .f32⟩
  | .hbm, ⟨8, _⟩ => ⟨S32768x1024, .f32⟩
  | .hbm, ⟨9, _⟩ => ⟨S2x32768x256, .f32⟩
  | .hbm, ⟨10, _⟩ => ⟨S1024x1024, .f32⟩
  | .hbm, ⟨11, _⟩ => ⟨S1024x1024, .bf16⟩
  | .hbm, ⟨12, _⟩ => ⟨S1x1024x1024, .f32⟩
  | .hbm, ⟨13, _⟩ => ⟨S1024x1024, .f32⟩
  | .hbm, ⟨14, _⟩ => ⟨S1024x1024, .bf16⟩
  | .hbm, ⟨15, _⟩ => ⟨S1x256x1024, .f32⟩
  | .hbm, ⟨16, _⟩ => ⟨S256x1024, .f32⟩
  | .hbm, ⟨17, _⟩ => ⟨S256x1024, .bf16⟩
  | .hbm, ⟨18, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x4x512x128, .bf16⟩
  | .local _ .vmem, ⟨3, _⟩ => ⟨S1x4x512x128, .bf16⟩
  | .local _ .vmem, ⟨4, _⟩ => ⟨S1x4x512x128, .bf16⟩
  | .local _ .vmem, ⟨5, _⟩ => ⟨S1x4x512x128, .bf16⟩
  | .local _ .vmem, ⟨6, _⟩ => ⟨S512x1024, .bf16⟩
  | .local _ .vmem, ⟨7, _⟩ => ⟨S512x1024, .bf16⟩
  | .local _ .vmem, ⟨8, _⟩ => ⟨S1x512x256, .f32⟩
  | .local _ .vmem, ⟨9, _⟩ => ⟨S1x512x256, .f32⟩
  | .local _ .vmem, ⟨10, _⟩ => ⟨S1024x1024, .bf16⟩
  | .local _ .vmem, ⟨11, _⟩ => ⟨S1024x1024, .bf16⟩
  | .local _ .vmem, ⟨12, _⟩ => ⟨S256x1024, .bf16⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_2 (i : grid0.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostEvenRefIdeal.lean ====
abbrev S8x4096x1024 : Shape := ⟨3, ![8, 4096, 1024]⟩
abbrev S8x4x4096x128 : Shape := ⟨4, ![8, 4, 4096, 128]⟩
abbrev S32768x1024 : Shape := ⟨2, ![32768, 1024]⟩
abbrev S2x8x4096x256 : Shape := ⟨4, ![2, 8, 4096, 256]⟩
abbrev S1x1024x1024 : Shape := ⟨3, ![1, 1024, 1024]⟩
abbrev S2x1024x1024 : Shape := ⟨3, ![2, 1024, 1024]⟩
abbrev S2x256x1024 : Shape := ⟨3, ![2, 256, 1024]⟩
abbrev S8x4096x4x128 : Shape := ⟨4, ![8, 4096, 4, 128]⟩
abbrev S8x4096x512 : Shape := ⟨3, ![8, 4096, 512]⟩
abbrev S_ : Shape := ⟨0, ![]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩

abbrev nBuf : Space → Nat
  | .hbm => 49
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4x4096x128, .bf16⟩
  | .hbm, ⟨2, _⟩ => ⟨S8x4x4096x128, .bf16⟩
  | .hbm, ⟨3, _⟩ => ⟨S32768x1024, .bf16⟩
  | .hbm, ⟨4, _⟩ => ⟨S2x8x4096x256, .f32⟩
  | .hbm, ⟨5, _⟩ => ⟨S1x1024x1024, .f32⟩
  | .hbm, ⟨6, _⟩ => ⟨S2x1024x1024, .f32⟩
  | .hbm, ⟨7, _⟩ => ⟨S2x256x1024, .f32⟩
  | .hbm, ⟨8, _⟩ => ⟨S8x4096x4x128, .bf16⟩
  | .hbm, ⟨9, _⟩ => ⟨S8x4096x4x128, .f32⟩
  | .hbm, ⟨10, _⟩ => ⟨S8x4096x512, .f32⟩
  | .hbm, ⟨11, _⟩ => ⟨S8x4096x4x128, .bf16⟩
  | .hbm, ⟨12, _⟩ => ⟨S8x4096x4x128, .f32⟩
  | .hbm, ⟨13, _⟩ => ⟨S8x4096x512, .f32⟩
  | .hbm, ⟨14, _⟩ => ⟨S8x4096x1024, .f32⟩
  | .hbm, ⟨15, _⟩ => ⟨S32768x1024, .f32⟩
  | .hbm, ⟨16, _⟩ => ⟨S8x4096x1024, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S_, .f32⟩
  | .hbm, ⟨23, _⟩ => ⟨S8x4096x1024, .f32⟩
  | .hbm, ⟨24, _⟩ => ⟨S8x4096x1024, .f32⟩
  | .hbm, ⟨25, _⟩ => ⟨S8x4096x1024, .f32⟩
  | .hbm, ⟨26, _⟩ => ⟨S8x4096x1024, .f32⟩
  | .hbm, ⟨27, _⟩ => ⟨S1024x1024, .f32⟩
  | .hbm, ⟨28, _⟩ => ⟨S8x4096x1024, .f32⟩
  | .hbm, ⟨29, _⟩ => ⟨S8x4096x1024, .f32⟩
  | .hbm, ⟨30, _⟩ => ⟨S1x8x4096x256, .f32⟩
  | .hbm, ⟨31, _⟩ => ⟨S8x4096x256, .f32⟩
  | .hbm, ⟨32, _⟩ => ⟨S1x256x1024, .f32⟩
  | .hbm, ⟨33, _⟩ => ⟨S256x1024, .f32⟩
  | .hbm, ⟨34, _⟩ => ⟨S8x4096x1024, .f32⟩
  | .hbm, ⟨35, _⟩ => ⟨S1x1024x1024, .f32⟩
  | .hbm, ⟨36, _⟩ => ⟨S1024x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S_, .f32⟩
  | .hbm, ⟨44, _⟩ => ⟨S8x4096x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst : Ref sig .tc := ⟨.hbm, 40, rfl⟩
abbrev main_v24 : Ref sig .tc := ⟨.hbm, 41, rfl⟩
abbrev main_v25 : Ref sig .tc := ⟨.hbm, 42, rfl⟩
abbrev main_cst_0 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]
-- ==== PostOdd.lean ====
abbrev S32768x1024 : Shape := ⟨2, ![32768, 1024]⟩
abbrev S8x8x16x256x128 : Shape := ⟨5, ![8, 8, 16, 256, 128]⟩
abbrev S8x16x256x1024 : Shape := ⟨4, ![8, 16, 256, 1024]⟩
abbrev S2x8x4096x256 : Shape := ⟨4, ![2, 8, 4096, 256]⟩
abbrev S1x1024x1024 : Shape := ⟨3, ![1, 1024, 1024]⟩
abbrev S2x1024x1024 : Shape := ⟨3, ![2, 1024, 1024]⟩
abbrev S2x256x1024 : Shape := ⟨3, ![2, 256, 1024]⟩
abbrev S8x256x16x1024 : Shape := ⟨4, ![8, 256, 16, 1024]⟩
abbrev S2x8x256x16x256 : Shape := ⟨5, ![2, 8, 256, 16, 256]⟩
abbrev S1024x1024 : Shape := ⟨2, ![1024, 1024]⟩
abbrev S1x256x1024 : Shape := ⟨3, ![1, 256, 1024]⟩
abbrev S256x1024 : Shape := ⟨2, ![256, 1024]⟩
abbrev S1x64x8x1024 : Shape := ⟨4, ![1, 64, 8, 1024]⟩
abbrev S1x8x8x64x128 : Shape := ⟨5, ![1, 8, 8, 64, 128]⟩
abbrev S1x8x64x1024 : Shape := ⟨4, ![1, 8, 64, 1024]⟩
abbrev S1x1x64x8x256 : Shape := ⟨5, ![1, 1, 64, 8, 256]⟩
abbrev S512x1024 : Shape := ⟨2, ![512, 1024]⟩
abbrev S1x1x1x64x128 : Shape := ⟨5, ![1, 1, 1, 64, 128]⟩
abbrev S64x128 : Shape := ⟨2, ![64, 128]⟩
abbrev S1x1x64x128 : Shape := ⟨4, ![1, 1, 64, 128]⟩
abbrev S1x64x1x1024 : Shape := ⟨4, ![1, 64, 1, 1024]⟩
abbrev S64x1024 : Shape := ⟨2, ![64, 1024]⟩
abbrev S1x1x64x1x256 : Shape := ⟨5, ![1, 1, 64, 1, 256]⟩
abbrev S64x256 : Shape := ⟨2, ![64, 256]⟩
abbrev S512x256 : Shape := ⟨2, ![512, 256]⟩
abbrev S1024x512 : Shape := ⟨2, ![1024, 512]⟩
abbrev S512x512 : Shape := ⟨2, ![512, 512]⟩
abbrev S256x512 : Shape := ⟨2, ![256, 512]⟩
abbrev S64x512 : Shape := ⟨2, ![64, 512]⟩
abbrev S1x64x1x512 : Shape := ⟨4, ![1, 64, 1, 512]⟩

abbrev nBuf : Space → Nat
  | .hbm => 18
  | .vmem => 15
  | .smem => 0
  | _ => 0

abbrev bufTy : (tb : Table) → Fin (tcTables nBuf tb) → BufTy
  | .hbm, ⟨0, _⟩ => ⟨S32768x1024, .f32⟩
  | .hbm, ⟨1, _⟩ => ⟨S8x8x16x256x128, .bf16⟩
  | .hbm, ⟨2, _⟩ => ⟨S8x16x256x1024, .bf16⟩
  | .hbm, ⟨3, _⟩ => ⟨S2x8x4096x256, .f32⟩
  | .hbm, ⟨4, _⟩ => ⟨S1x1024x1024, .f32⟩
  | .hbm, ⟨5, _⟩ => ⟨S2x1024x1024, .f32⟩
  | .hbm, ⟨6, _⟩ => ⟨S2x256x1024, .f32⟩
  | .hbm, ⟨7, _⟩ => ⟨S8x256x16x1024, .f32⟩
  | .hbm, ⟨8, _⟩ => ⟨S2x8x256x16x256, .f32⟩
  | .hbm, ⟨9, _⟩ => ⟨S1024x1024, .f32⟩
  | .hbm, ⟨10, _⟩ => ⟨S1024x1024, .bf16⟩
  | .hbm, ⟨11, _⟩ => ⟨S1x1024x1024, .f32⟩
  | .hbm, ⟨12, _⟩ => ⟨S1024x1024, .f32⟩
  | .hbm, ⟨13, _⟩ => ⟨S1024x1024, .bf16⟩
  | .hbm, ⟨14, _⟩ => ⟨S1x256x1024, .f32⟩
  | .hbm, ⟨15, _⟩ => ⟨S256x1024, .f32⟩
  | .hbm, ⟨16, _⟩ => ⟨S256x1024, .bf16⟩
  | .hbm, ⟨17, _⟩ => ⟨S8x256x16x1024, .f32⟩
  | .local _ .vmem, ⟨0, _⟩ => ⟨S1x64x8x1024, .f32⟩
  | .local _ .vmem, ⟨1, _⟩ => ⟨S1x64x8x1024, .f32⟩
  | .local _ .vmem, ⟨2, _⟩ => ⟨S1x8x8x64x128, .bf16⟩
  | .local _ .vmem, ⟨3, _⟩ => ⟨S1x8x8x64x128, .bf16⟩
  | .local _ .vmem, ⟨4, _⟩ => ⟨S1x8x64x1024, .bf16⟩
  | .local _ .vmem, ⟨5, _⟩ => ⟨S1x8x64x1024, .bf16⟩
  | .local _ .vmem, ⟨6, _⟩ => ⟨S1x1x64x8x256, .f32⟩
  | .local _ .vmem, ⟨7, _⟩ => ⟨S1x1x64x8x256, .f32⟩
  | .local _ .vmem, ⟨8, _⟩ => ⟨S1024x1024, .bf16⟩
  | .local _ .vmem, ⟨9, _⟩ => ⟨S1024x1024, .bf16⟩
  | .local _ .vmem, ⟨10, _⟩ => ⟨S256x1024, .bf16⟩
  | .local _ .vmem, ⟨11, _⟩ => ⟨S1x64x8x1024, .f32⟩
  | .local _ .vmem, ⟨12, _⟩ => ⟨S1x64x8x1024, .f32⟩
  | .local _ .vmem, ⟨13, _⟩ => ⟨S512x1024, .bf16⟩
  | .local _ .vmem, ⟨14, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, arg2.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![c1_i32.toNat, arg0.toNat, arg2.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x8x8x64x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x8x64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S1x64x8x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== PostOddRefIdeal.lean ====
abbrev S32768x1024 : Shape := ⟨2, ![32768, 1024]⟩
abbrev S8x8x16x256x128 : Shape := ⟨5, ![8, 8, 16, 256, 128]⟩
abbrev S8x16x256x1024 : Shape := ⟨4, ![8, 16, 256, 1024]⟩
abbrev S2x8x4096x256 : Shape := ⟨4, ![2, 8, 4096, 256]⟩
abbrev S1x1024x1024 : Shape := ⟨3, ![1, 1024, 1024]⟩
abbrev S2x1024x1024 : Shape := ⟨3, ![2, 1024, 1024]⟩
abbrev S2x256x1024 : Shape := ⟨3, ![2, 256, 1024]⟩
abbrev S8x256x16x8x128 : Shape := ⟨5, ![8, 256, 16, 8, 128]⟩
abbrev S8x4096x1024 : Shape := ⟨3, ![8, 4096, 1024]⟩
abbrev S8x256x16x1024 : Shape := ⟨4, ![8, 256, 16, 1024]⟩
abbrev S_ : Shape := ⟨0, ![]⟩
abbrev S1024x1024 : Shape := ⟨2, ![1024, 1024]⟩
abbrev S1x8x4096x256 : Shape := ⟨4, ![1, 8, 4096, 256]⟩
abbrev S8x4096x256 : Shape := ⟨3, ![8, 4096, 256]⟩
abbrev S1x256x1024 : Shape := ⟨3, ![1, 256, 1024]⟩
abbrev S256x1024 : Shape := ⟨2, ![256, 1024]⟩

abbrev nBuf : Space → Nat
  | .hbm => 46
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S8x8x16x256x128, .bf16⟩
  | .hbm, ⟨2, _⟩ => ⟨S8x16x256x1024, .bf16⟩
  | .hbm, ⟨3, _⟩ => ⟨S2x8x4096x256, .f32⟩
  | .hbm, ⟨4, _⟩ => ⟨S1x1024x1024, .f32⟩
  | .hbm, ⟨5, _⟩ => ⟨S2x1024x1024, .f32⟩
  | .hbm, ⟨6, _⟩ => ⟨S2x256x1024, .f32⟩
  | .hbm, ⟨7, _⟩ => ⟨S8x256x16x8x128, .bf16⟩
  | .hbm, ⟨8, _⟩ => ⟨S8x256x16x8x128, .f32⟩
  | .hbm, ⟨9, _⟩ => ⟨S8x4096x1024, .f32⟩
  | .hbm, ⟨10, _⟩ => ⟨S8x256x16x1024, .bf16⟩
  | .hbm, ⟨11, _⟩ => ⟨S8x256x16x1024, .f32⟩
  | .hbm, ⟨12, _⟩ => ⟨S8x4096x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096x1024, .f32⟩
  | .hbm, ⟨18, _⟩ => ⟨S8x4096x1024, .f32⟩
  | .hbm, ⟨19, _⟩ => ⟨S_, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S8x4096x1024, .f32⟩
  | .hbm, ⟨24, _⟩ => ⟨S1024x1024, .f32⟩
  | .hbm, ⟨25, _⟩ => ⟨S8x4096x1024, .f32⟩
  | .hbm, ⟨26, _⟩ => ⟨S8x4096x1024, .f32⟩
  | .hbm, ⟨27, _⟩ => ⟨S1x8x4096x256, .f32⟩
  | .hbm, ⟨28, _⟩ => ⟨S8x4096x256, .f32⟩
  | .hbm, ⟨29, _⟩ => ⟨S1x256x1024, .f32⟩
  | .hbm, ⟨30, _⟩ => ⟨S256x1024, .f32⟩
  | .hbm, ⟨31, _⟩ => ⟨S8x4096x1024, .f32⟩
  | .hbm, ⟨32, _⟩ => ⟨S1x1024x1024, .f32⟩
  | .hbm, ⟨33, _⟩ => ⟨S1024x1024, .f32⟩
  | .hbm, ⟨34, _⟩ => ⟨S8x4096x1024, .f32⟩
  | .hbm, ⟨35, _⟩ => ⟨S8x4096x1024, .f32⟩
  | .hbm, ⟨36, _⟩ => ⟨S8x4096x1024, .f32⟩
  | .hbm, ⟨37, _⟩ => ⟨S_, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1024, .f32⟩
  | .hbm, ⟨42, _⟩ => ⟨S8x4096x1024, .f32⟩
  | .hbm, ⟨43, _⟩ => ⟨S8x4096x1024, .f32⟩
  | .hbm, ⟨44, _⟩ => ⟨S8x4096x1024, .f32⟩
  | .hbm, ⟨45, _⟩ => ⟨S8x256x16x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst : Ref sig .tc := ⟨.hbm, 37, rfl⟩
abbrev main_v22 : Ref sig .tc := ⟨.hbm, 38, rfl⟩
abbrev main_v23 : Ref sig .tc := ⟨.hbm, 39, rfl⟩
abbrev main_cst_0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Tile.lean ====
/- What one grid point of the attention leaves in its block, written as one recursion over the key blocks. -/
module

public import proofs.«01_k».proof.Proof.Gen.KernelIdeal.Value
public import Idealize.ShloMosaic.Lib.Pipeline.ValueKit
public import Idealize.ShloMosaic.Lib.Pipeline.ReadBack

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

/-- The rows `512 j …` of a block of 4096 rows lie inside it. -/
theorem rows_inb (j : ℕ) : ∀ a : Fin 4, (![0, 0, j % 8 * 512, 0] : Fin 4 → ℕ) a + (![1, 1, 512, 128] : Fin 4 → ℕ) a ≤ (![1, 1, 4096, 128] : Fin 4 → ℕ) a := by
  intro a; fin_cases a <;> simp; omega

/-- The columns `512 j …` of a block of 4096 columns lie inside it. -/
theorem cols_inb (j : ℕ) : ∀ a : Fin 4, (![0, 0, 0, j % 8 * 512] : Fin 4 → ℕ) a + (![1, 1, 128, 512] : Fin 4 → ℕ) a ≤ (![1, 1, 128, 4096] : Fin 4 → ℕ) a := by
  intro a; fin_cases a <;> simp; omega

/-- Rows `512 j … 512 j + 511` of the queries or keys. -/
def rows (X : Vec Ideal S1x1x4096x128 .bf16) (j : ℕ) : Vec Ideal S1x1x512x128 .bf16 :=
  View.ld X (Rect.unit (s := S1x1x4096x128) ![0, 0, j % 8 * 512, 0] ![1, 1, 512, 128] (rows_inb j))

/-- Columns `512 j … 512 j + 511` of the transposed values. -/
def cols (X : Vec Ideal S1x1x128x4096 .bf16) (j : ℕ) : Vec Ideal S1x1x128x512 .bf16 :=
  View.ld X (Rect.unit (s := S1x1x128x4096) ![0, 0, 0, j % 8 * 512] ![1, 1, 128, 512] (cols_inb j))

/-- A row of the four vectors of lambda. -/
def lamRow (X : Vec Ideal S8x128 .f32) (j : ℕ) : Vec Ideal S1x128 .f32 :=
  View.ld X (Rect.unit (s := S8x128) ![j % 8, 0] ![1, 128] (by intro a; fin_cases a <;> simp; omega))

/-- The two stacked copies of 512 queries, each with the lanes of one component. -/
def stacked (Q : Vec Ideal S1x1x4096x128 .bf16) (i : ℕ) : FVec Ideal S1024x128 .bf16 :=
  k0_pay3 (rows Q i)

/-- The scores of key block `j` against the queries of tile `i`. -/
def score (Q K : Vec Ideal S1x1x4096x128 .bf16) (i j : ℕ) : FVec Ideal S512x1024 .f32 :=
  k0_pay22 (stacked Q i) (rows K j)

/-- The same on the diagonal, the later keys masked. -/
def scoreDiag (Q K : Vec Ideal S1x1x4096x128 .bf16) (i : ℕ) : FVec Ideal S512x1024 .f32 :=
  k0_pay7 (stacked Q i) (rows K i)

/-- The new running maximum. -/
def nextMax (s : FVec Ideal S512x1024 .f32) (M : Vec Ideal S1x1x1024 .f32) : FVec Ideal S1x1x1024 .f32 :=
  k0_pay26 s M

/-- The new accumulator. -/
def nextAcc (s : FVec Ideal S512x1024 .f32) (v : Vec Ideal S1x1x128x512 .bf16) (M : Vec Ideal S1x1x1024 .f32) (A : Vec Ideal S1x144x1024 .f32) :
    FVec Ideal S1x144x1024 .f32 :=
  k0_pay25 s v M A

/-- The running maximum after the first `j` key blocks. -/
def runMax (Q K : Vec Ideal S1x1x4096x128 .bf16) (i : ℕ) : ℕ → FVec Ideal S1x1x1024 .f32
  | 0 => k0_pay19
  | j + 1 => nextMax (score Q K i j) (runMax Q K i j)

/-- The accumulator after the first `j` key blocks. -/
def runAcc (Q K : Vec Ideal S1x1x4096x128 .bf16) (W : Vec Ideal S1x1x128x4096 .bf16) (i : ℕ) : ℕ → FVec Ideal S1x144x1024 .f32
  | 0 => k0_pay20
  | j + 1 => nextAcc (score Q K i j) (cols W j) (runMax Q K i j) (runAcc Q K W i j)

/-- The accumulator of tile `i` after its last block, the one on the diagonal. -/
def lastAcc (Q K : Vec Ideal S1x1x4096x128 .bf16) (W : Vec Ideal S1x1x128x4096 .bf16) (i : ℕ) : FVec Ideal S1x144x1024 .f32 :=
  nextAcc (scoreDiag Q K i) (cols W i) (runMax Q K i i) (runAcc Q K W i i)

/-- The rows of the accumulator that hold the weighted sums of the values. -/
def sums (A : Vec Ideal S1x144x1024 .f32) : Vec Ideal S1x128x1024 .f32 :=
  View.ld A (Rect.unit (s := S1x144x1024) ![0, 0, 0] ![1, 128, 1024] (by decide))

/-- The row of the accumulator that holds the sum of the weights. -/
def total (A : Vec Ideal S1x144x1024 .f32) : Vec Ideal S1x1x1024 .f32 :=
  View.ld A (Rect.unit (s := S1x144x1024) ![0, 128, 0] ![1, 1, 1024] (by decide))

/-- The tile of the result, of an accumulator. -/
def finish (l : FVec Ideal S1x1 .f32) (A : Vec Ideal S1x144x1024 .f32) (G : Vec Ideal S128x1 .f32) : FVec Ideal S1x1x512x128 .bf16 :=
  k0_pay33 l (sums A) (total A) G

/-- The weight of the second component. -/
def lamOf (L : Vec Ideal S8x128 .f32) : FVec Ideal S1x1 .f32 :=
  k0_pay2 (lamRow L 0) (lamRow L 1) (lamRow L 2) (lamRow L 3)

/-- The tile of the result. -/
def tileOut (Q K : Vec Ideal S1x1x4096x128 .bf16) (W : Vec Ideal S1x1x128x4096 .bf16) (L : Vec Ideal S8x128 .f32) (G : Vec Ideal S128x1 .f32)
    (i : ℕ) : FVec Ideal S1x1x512x128 .bf16 :=
  finish (lamOf L) (lastAcc Q K W i) G

/-- A load inside the last store's rectangle reads its payload. -/
theorem readCov_within {sig : RefSig} {κ : Kind} {sp : Space} {s : Shape} {e : EltTy} {Val : EltTy → Type} [∀ e, Nonempty (Val e)]
    (v : View sig κ sp s e) (r : Rect s) (w : r.shape.Idx → Val e) (L : List (View.Piece Val s e)) (B : LoadRect s)
    (f : B.shape.Idx → r.shape.Idx) (h : ∀ x, B.idx x = r.emb (f x)) : v.readCov (⟨r, w⟩ :: L) B = fun x => w (f x) := by
  rw [View.readCov_eq_canon']
  funext x
  rw [h]
  exact View.canon_cons_emb r w L (f x)

/-- The rows of the sums, loaded right after a store of the whole slice. -/
theorem readCov_sums {sig : RefSig} {κ : Kind} {sp : Space} (v : View sig κ sp S8x144x1024 .f32) (i : ℕ)
    (inb : ∀ a : Fin S8x144x1024.rank, (![i, 0, 0] : Fin 3 → ℕ) a + (![1, 144, 1024] : Fin 3 → ℕ) a ≤ S8x144x1024.size a)
    (inb' : ∀ a : Fin S8x144x1024.rank, (![i, 0, 0] : Fin 3 → ℕ) a + (![1, 128, 1024] : Fin 3 → ℕ) a ≤ S8x144x1024.size a)
    (w : S1x144x1024.Idx → Elt Ideal .f32) (L : List (View.Piece (Elt Ideal) S8x144x1024 .f32)) :
    v.readCov (⟨Rect.unit (s := S8x144x1024) ![i, 0, 0] ![1, 144, 1024] inb, w⟩ :: L)
      (Rect.unit (s := S8x144x1024) ![i, 0, 0] ![1, 128, 1024] inb').toLoadRect = sums w := by
  refine readCov_within (Val := Elt Ideal) (s := S8x144x1024) (e := .f32) v (Rect.unit (s := S8x144x1024) ![i, 0, 0] ![1, 144, 1024] inb) w L
    (Rect.unit (s := S8x144x1024) ![i, 0, 0] ![1, 128, 1024] inb').toLoadRect
    (Rect.unit (s := S1x144x1024) ![0, 0, 0] ![1, 128, 1024] (by decide)).idx fun x => ?_
  funext a
  apply Fin.ext
  revert a
  refine Fin.forall_fin_succ.mpr ⟨?_, Fin.forall_fin_succ.mpr ⟨?_, Fin.forall_fin_succ.mpr ⟨?_, fun a => a.elim0⟩⟩⟩ <;> simp [LoadRect.idx]

/-- The row of the total, loaded right after a store of the whole slice. -/
theorem readCov_total {sig : RefSig} {κ : Kind} {sp : Space} (v : View sig κ sp S8x144x1024 .f32) (i : ℕ)
    (inb : ∀ a : Fin S8x144x1024.rank, (![i, 0, 0] : Fin 3 → ℕ) a + (![1, 144, 1024] : Fin 3 → ℕ) a ≤ S8x144x1024.size a)
    (inb' : ∀ a : Fin S8x144x1024.rank, (![i, 128, 0] : Fin 3 → ℕ) a + (![1, 1, 1024] : Fin 3 → ℕ) a ≤ S8x144x1024.size a)
    (w : S1x144x1024.Idx → Elt Ideal .f32) (L : List (View.Piece (Elt Ideal) S8x144x1024 .f32)) :
    v.readCov (⟨Rect.unit (s := S8x144x1024) ![i, 0, 0] ![1, 144, 1024] inb, w⟩ :: L)
      (Rect.unit (s := S8x144x1024) ![i, 128, 0] ![1, 1, 1024] inb').toLoadRect = total w := by
  refine readCov_within (Val := Elt Ideal) (s := S8x144x1024) (e := .f32) v (Rect.unit (s := S8x144x1024) ![i, 0, 0] ![1, 144, 1024] inb) w L
    (Rect.unit (s := S8x144x1024) ![i, 128, 0] ![1, 1, 1024] inb').toLoadRect
    (Rect.unit (s := S1x144x1024) ![0, 128, 0] ![1, 1, 1024] (by decide)).idx fun x => ?_
  funext a
  apply Fin.ext
  revert a
  refine Fin.forall_fin_succ.mpr ⟨?_, Fin.forall_fin_succ.mpr ⟨?_, Fin.forall_fin_succ.mpr ⟨?_, fun a => a.elim0⟩⟩⟩ <;> simp [LoadRect.idx]

/-- The block a grid point leaves, read at an index: its tile is the index's row over 512. -/
def blockOut (Q K : Vec Ideal S1x1x4096x128 .bf16) (W : Vec Ideal S1x1x128x4096 .bf16) (L : Vec Ideal S8x128 .f32) (G : Vec Ideal S128x1 .f32)
    (y : S1x1x4096x128.Idx) : Elt Ideal .bf16 :=
  tileOut Q K W L G ((y 2 : ℕ) / 512) (ix4 0 0 ⟨(y 2 : ℕ) % 512, Nat.mod_lt _ (by decide)⟩ (y 3))

/-- The block read at an entry of a tile. -/
theorem blockOut_tile (Q K : Vec Ideal S1x1x4096x128 .bf16) (W : Vec Ideal S1x1x128x4096 .bf16) (L : Vec Ideal S8x128 .f32) (G : Vec Ideal S128x1 .f32)
    (i : ℕ) (y : S1x1x4096x128.Idx) (x : S1x1x512x128.Idx) (h2 : (y 2 : ℕ) = i * 512 + (x 2 : ℕ)) (h3 : (y 3 : ℕ) = (x 3 : ℕ)) :
    blockOut Q K W L G y = tileOut Q K W L G i x := by
  have hx : (x 2 : ℕ) < 512 := (x 2).isLt
  have e1 : (y 2 : ℕ) / 512 = i := by omega
  have e2 : (ix4 0 0 ⟨(y 2 : ℕ) % 512, Nat.mod_lt _ (by decide)⟩ (y 3) : S1x1x512x128.Idx) = x := by
    blk_ext
  unfold blockOut
  rw [e1, e2]

end Cert.KernelIdeal.Val
-- ==== Proof.Softmax.lean ====
/- The softmax taken block by block, with a running maximum, is the softmax taken at once: over the reals, where a masked score is minus infinity. -/
module

public import Idealize.ShloMosaic.PureOps.Ideal
public import Idealize.ShloMosaic.Lib.Pipeline.ValueKit

@[expose] public section

noncomputable section

namespace Cert.Softmax

open Idealize.ShloMosaic

/-- A sum of reals, taken in the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- A quotient of reals, taken in the extended reals. -/
theorem div_real (a b : ℝ) (hb : b ≠ 0) : Ideal.div (a : EReal) (b : EReal) = ((a / b : ℝ) : EReal) := by
  rw [Ideal.div_coe hb, ← EReal.coe_mul]
  congr 1
  ring

/-- The larger of a start value and some scores is a real, if none is plus infinity and one is a real. -/
theorem max_real {ι : Type} [Fintype ι] (b : EReal) (f : ι → EReal) (hb : b ≠ ⊤) (hf : ∀ i, f i ≠ ⊤) (h : b ≠ ⊥ ∨ ∃ i, f i ≠ ⊥) :
    ∃ μ : ℝ, max b (Finset.univ.fold max ⊥ f) = (μ : EReal) := by
  have e : Finset.univ.fold max ⊥ f = Finset.univ.sup f := rfl
  rw [e]
  have h1 : max b (Finset.univ.sup f) ≠ ⊤ := by
    apply ne_of_lt
    apply max_lt (lt_top_iff_ne_top.mpr hb)
    rw [Finset.sup_lt_iff bot_lt_top]
    exact fun i _ => lt_top_iff_ne_top.mpr (hf i)
  have h2 : max b (Finset.univ.sup f) ≠ ⊥ := by
    rcases h with h | ⟨i, h⟩
    · exact ne_bot_of_le_ne_bot h (le_max_left _ _)
    · exact ne_bot_of_le_ne_bot h ((Finset.le_sup (f := f) (Finset.mem_univ i)).trans (le_max_right _ _))
  exact ⟨_, (EReal.coe_toReal h1 h2).symm⟩

/-- A score that counts only where the mask holds. -/
def masked (P : Prop) [Decidable P] (x : ℝ) : EReal := if P then (x : EReal) else ⊥

theorem masked_ne_top (P : Prop) [Decidable P] (x : ℝ) : masked P x ≠ ⊤ := by
  unfold masked; split <;> simp

theorem masked_ne_bot (P : Prop) [Decidable P] (x : ℝ) (h : P) : masked P x ≠ ⊥ := by
  unfold masked; rw [if_pos h]; simp

/-- The weight of a score to base two. -/
theorem exp2_masked (P : Prop) [Decidable P] (x μ : ℝ) :
    Ideal.exp2 (masked P x - (μ : EReal)) = ((if P then (2 : ℝ) ^ (x - μ) else 0 : ℝ) : EReal) := by
  unfold masked
  split
  · rw [← EReal.coe_sub]; rfl
  · simp

/-- The weight of a score to base e. -/
theorem exp_masked (P : Prop) [Decidable P] (x μ : ℝ) :
    Ideal.exp (masked P x - (μ : EReal)) = ((if P then Real.exp (x - μ) else 0 : ℝ) : EReal) := by
  unfold masked
  split
  · rw [← EReal.coe_sub]; rfl
  · simp

/-- The running maximum after some blocks of scores. -/
def runMax (s : ℕ → Fin 512 → EReal) : ℕ → EReal
  | 0 => ⊥
  | j + 1 => max (runMax s j) (Finset.univ.fold max ⊥ (s j))

/-- The running sum of weighted values, rescaled whenever the maximum grows. -/
def runAcc (s v : ℕ → Fin 512 → EReal) : ℕ → EReal
  | 0 => 0
  | j + 1 => Ideal.exp2 (runMax s j - runMax s (j + 1)) * runAcc s v j + ∑ r, v j r * Ideal.exp2 (s j r - runMax s (j + 1))

/-- After at least one block the maximum is a real, and the running sum is the sum of the values with the weights of that maximum. -/
theorem run_real (x : ℕ → Fin 512 → ℝ) (P : ℕ → Fin 512 → Prop) [∀ j r, Decidable (P j r)] (hP : ∃ r, P 0 r) (n : ℕ) :
    ∃ μ : ℝ, runMax (fun j r => masked (P j r) (x j r)) (n + 1) = (μ : EReal) ∧ ∀ v : ℕ → Fin 512 → ℝ,
      runAcc (fun j r => masked (P j r) (x j r)) (fun j r => (v j r : EReal)) (n + 1)
        = ((∑ j ∈ Finset.range (n + 1), ∑ r, v j r * (if P j r then (2 : ℝ) ^ (x j r - μ) else 0) : ℝ) : EReal) := by
  induction n with
  | zero =>
    obtain ⟨r, hr⟩ := hP
    obtain ⟨μ, hμ⟩ := max_real ⊥ (fun r => masked (P 0 r) (x 0 r)) (by simp) (fun i => masked_ne_top _ _) (Or.inr ⟨r, masked_ne_bot _ _ hr⟩)
    have hm : runMax (fun j r => masked (P j r) (x j r)) (0 + 1) = (μ : EReal) := hμ
    refine ⟨μ, hm, fun v => ?_⟩
    simp only [runAcc]
    rw [hm]
    simp only [exp2_masked, ← EReal.coe_mul, coe_sum, mul_zero, zero_add, Finset.range_one, Finset.sum_singleton]
  | succ n ih =>
    obtain ⟨μ, hμ, hv⟩ := ih
    obtain ⟨ν, hν⟩ := max_real (μ : EReal) (fun r => masked (P (n + 1) r) (x (n + 1) r)) (by simp) (fun i => masked_ne_top _ _) (Or.inl (by simp))
    have hm : runMax (fun j r => masked (P j r) (x j r)) (n + 1 + 1) = (ν : EReal) := by
      rw [runMax, hμ]; exact hν
    refine ⟨ν, hm, fun v => ?_⟩
    rw [runAcc, hm, hμ, hv v]
    simp only [exp2_masked, ← EReal.coe_mul, coe_sum]
    rw [← EReal.coe_sub, Ideal.exp2_coe, ← EReal.coe_mul, ← EReal.coe_add, Finset.sum_range_succ _ (n + 1)]
    congr 2
    rw [Finset.mul_sum]
    refine Finset.sum_congr rfl fun j _ => ?_
    rw [Finset.mul_sum]
    refine Finset.sum_congr rfl fun r _ => ?_
    split
    · have e : Real.rpow 2 (μ - ν) * (2 : ℝ) ^ (x j r - μ) = (2 : ℝ) ^ (x j r - ν) := by
        change (2 : ℝ) ^ (μ - ν) * (2 : ℝ) ^ (x j r - μ) = _
        rw [← Real.rpow_add (by norm_num)]
        congr 1
        ring
      rw [← e]
      ring
    · simp

/-- The value the blocks give: the weighted mean of the values, the weights two to the scores. -/
theorem run_quot (x v : ℕ → Fin 512 → ℝ) (P : ℕ → Fin 512 → Prop) [∀ j r, Decidable (P j r)] (hP : ∃ r, P 0 r) (n : ℕ) :
    Ideal.div (runAcc (fun j r => masked (P j r) (x j r)) (fun j r => (v j r : EReal)) (n + 1))
        (runAcc (fun j r => masked (P j r) (x j r)) (fun _ _ => 1) (n + 1))
      = (((∑ j ∈ Finset.range (n + 1), ∑ r, v j r * (if P j r then (2 : ℝ) ^ (x j r) else 0))
          / ∑ j ∈ Finset.range (n + 1), ∑ r, (if P j r then (2 : ℝ) ^ (x j r) else 0) : ℝ) : EReal) := by
  obtain ⟨μ, -, hv⟩ := run_real x P hP n
  have h1 := hv (fun _ _ => 1)
  simp only [EReal.coe_one, one_mul] at h1
  have hw : ∀ j r, (if P j r then (2 : ℝ) ^ (x j r - μ) else 0) = (2 : ℝ) ^ (-μ) * (if P j r then (2 : ℝ) ^ (x j r) else 0) := by
    intro j r
    split
    · rw [← Real.rpow_add (by norm_num)]; congr 1; ring
    · simp
  have hpos : 0 < ∑ j ∈ Finset.range (n + 1), ∑ r, (if P j r then (2 : ℝ) ^ (x j r) else 0) := by
    obtain ⟨r, hr⟩ := hP
    have hn : ∀ j r, 0 ≤ (if P j r then (2 : ℝ) ^ (x j r) else 0) := by
      intro j r; split
      · exact (Real.rpow_pos_of_pos (by norm_num) _).le
      · exact le_refl _
    refine Finset.sum_pos' (fun j _ => Finset.sum_nonneg fun r _ => hn j r) ⟨0, by simp, ?_⟩
    refine Finset.sum_pos' (fun r _ => hn 0 r) ⟨r, by simp, ?_⟩
    rw [if_pos hr]
    exact Real.rpow_pos_of_pos (by norm_num) _
  have hc : (2 : ℝ) ^ (-μ) ≠ 0 := (Real.rpow_pos_of_pos (by norm_num) _).ne'
  rw [h1, hv v]
  simp only [hw]
  have hs : ∀ f : ℕ → Fin 512 → ℝ, ∑ j ∈ Finset.range (n + 1), ∑ r, (2 : ℝ) ^ (-μ) * f j r
      = (2 : ℝ) ^ (-μ) * ∑ j ∈ Finset.range (n + 1), ∑ r, f j r := by
    intro f; rw [Finset.mul_sum]; refine Finset.sum_congr rfl fun j _ => ?_; rw [Finset.mul_sum]
  have hs' : ∑ j ∈ Finset.range (n + 1), ∑ r, v j r * ((2 : ℝ) ^ (-μ) * (if P j r then (2 : ℝ) ^ (x j r) else 0))
      = (2 : ℝ) ^ (-μ) * ∑ j ∈ Finset.range (n + 1), ∑ r, v j r * (if P j r then (2 : ℝ) ^ (x j r) else 0) := by
    rw [← hs]; refine Finset.sum_congr rfl fun j _ => Finset.sum_congr rfl fun r _ => ?_; ring
  rw [hs, hs', div_real _ _ (mul_ne_zero hc hpos.ne'), mul_div_mul_left _ _ hc]

/-- The weight of key `k` for the query at position `p`, of the scores in the base e. -/
def weight (y : Fin 4096 → ℝ) (p : ℕ) (k : Fin 4096) : ℝ := if (k : ℕ) ≤ p then Real.exp (y k) else 0

/-- The probability of key `k` for the query at position `p`. -/
def prob (y : Fin 4096 → ℝ) (p : ℕ) (k : Fin 4096) : ℝ := weight y p k / ∑ k', weight y p k'

theorem weight_nonneg (y : Fin 4096 → ℝ) (p : ℕ) (k : Fin 4096) : 0 ≤ weight y p k := by
  unfold weight; split
  · exact (Real.exp_pos _).le
  · exact le_refl _

theorem weight_sum_pos (y : Fin 4096 → ℝ) (p : ℕ) : 0 < ∑ k, weight y p k := by
  refine Finset.sum_pos' (fun k _ => weight_nonneg y p k) ⟨0, by simp, ?_⟩
  unfold weight
  rw [if_pos (by simp)]
  exact Real.exp_pos _

/-- The softmax taken at once, of masked scores. -/
theorem softmax_at (y : Fin 4096 → ℝ) (p : ℕ) (μ : ℝ) (k : Fin 4096) :
    Ideal.div (Ideal.exp (masked ((k : ℕ) ≤ p) (y k) - (μ : EReal))) (∑ k' : Fin 4096, Ideal.exp (masked ((k' : ℕ) ≤ p) (y k') - (μ : EReal)))
      = ((prob y p k : ℝ) : EReal) := by
  have hw : ∀ k : Fin 4096, (if (k : ℕ) ≤ p then Real.exp (y k - μ) else 0) = Real.exp (-μ) * weight y p k := by
    intro k
    unfold weight
    split
    · rw [← Real.exp_add]; congr 1; ring
    · simp
  simp only [exp_masked, coe_sum, hw]
  have hc : Real.exp (-μ) ≠ 0 := (Real.exp_pos _).ne'
  rw [← Finset.mul_sum, div_real _ _ (mul_ne_zero hc (weight_sum_pos y p).ne'), mul_div_mul_left _ _ hc]
  rfl

/-- The largest score of a row is a real. -/
theorem row_max_real (y : Fin 4096 → ℝ) (p : ℕ) :
    ∃ μ : ℝ, max ⊥ (Finset.univ.fold max ⊥ fun k : Fin 4096 => masked ((k : ℕ) ≤ p) (y k)) = (μ : EReal) :=
  max_real ⊥ _ (by simp) (fun _ => masked_ne_top _ _) (Or.inr ⟨0, masked_ne_bot _ _ (by simp)⟩)

/-- The key at row `r` of block `j`. -/
def key (j : ℕ) (r : Fin 512) : Fin 4096 := ⟨(j % 8) * 512 + r, by omega⟩

/-- A sum over 4096 keys, block by block. -/
theorem sum_blocks (f : Fin 4096 → ℝ) : ∑ k, f k = ∑ j ∈ Finset.range 8, ∑ r, f (key j r) := by
  rw [Finset.sum_range, ← Finset.sum_product']
  refine (Finset.sum_bij' (fun (a : Fin 8 × Fin 512) _ => key a.1 a.2)
    (fun k _ => ((⟨k / 512, by omega⟩ : Fin 8), (⟨k % 512, by omega⟩ : Fin 512))) ?_ ?_ ?_ ?_ ?_).symm
  · simp
  · simp
  · rintro ⟨a, b⟩ _
    ext <;> simp only [key] <;> omega
  · intro k _
    apply Fin.ext
    simp only [key]
    omega
  · simp

/-- The blocks up to the one on the diagonal give the whole row's weighted mean. -/
theorem run_attn (y v : Fin 4096 → ℝ) (i : ℕ) (hi : i < 8) (c : ℕ) (hc : c < 512) :
    Ideal.div (runAcc (fun j r => masked ((key j r : ℕ) ≤ i * 512 + c) (y (key j r) / Real.log 2)) (fun j r => (v (key j r) : EReal)) (i + 1))
        (runAcc (fun j r => masked ((key j r : ℕ) ≤ i * 512 + c) (y (key j r) / Real.log 2)) (fun _ _ => 1) (i + 1))
      = ((∑ k, prob y (i * 512 + c) k * v k : ℝ) : EReal) := by
  rw [run_quot (fun j r => y (key j r) / Real.log 2) (fun j r => v (key j r)) (fun j r => (key j r : ℕ) ≤ i * 512 + c) ⟨0, by simp [key]⟩ i]
  have hw : ∀ j r, (if (key j r : ℕ) ≤ i * 512 + c then (2 : ℝ) ^ (y (key j r) / Real.log 2) else 0) = weight y (i * 512 + c) (key j r) := by
    intro j r
    unfold weight
    have hl : Real.log 2 ≠ 0 := (Real.log_pos (by norm_num)).ne'
    rw [Real.rpow_def_of_pos (by norm_num), mul_div_cancel₀ _ hl]
  simp only [hw]
  have ht : ∀ f : Fin 4096 → ℝ, (∀ k : Fin 4096, i * 512 + c < k → f k = 0) → ∑ j ∈ Finset.range (i + 1), ∑ r, f (key j r) = ∑ k, f k := by
    intro f hf
    rw [sum_blocks]
    refine Finset.sum_subset (fun j hj => ?_) fun j hj hj' => Finset.sum_eq_zero fun r _ => hf _ ?_
    · simp only [Finset.mem_range] at hj ⊢; omega
    · simp only [Finset.mem_range, key] at hj hj' ⊢; omega
  have h0 : ∀ k : Fin 4096, i * 512 + c < k → weight y (i * 512 + c) k = 0 := by
    intro k hk; unfold weight; rw [if_neg (by omega)]
  rw [ht (fun k => weight y (i * 512 + c) k) h0, ht (fun k => v k * weight y (i * 512 + c) k) fun k hk => by rw [h0 k hk, mul_zero],
    Finset.sum_div]
  congr 1
  refine Finset.sum_congr rfl fun k _ => ?_
  unfold prob
  ring

/-- The weighted mean of the values. -/
def mean (y v : Fin 4096 → ℝ) (p : ℕ) : ℝ := ∑ k, prob y p k * v k

/-- The pattern of minus infinity. -/
theorem ofBits_neg_inf : Ideal.ofBits .f32 0xFF800000#32 = ⊥ := by
  simp [Ideal.ofBits, Ideal.ieee]

/-- The pattern of one eighth. -/
theorem ofBits_eighth : Ideal.ofBits .f32 0x3E000000#32 = ((1 / 8 : ℝ) : EReal) := by
  simp [Ideal.ofBits, Ideal.ieee, -EReal.coe_mul]; norm_num

/-- The number lambda starts from, a real. -/
def lamInit : ℝ := (Ideal.ofBits .f32 0x3E4CCCCD#32).toReal

theorem ofBits_lamInit : Ideal.ofBits .f32 0x3E4CCCCD#32 = ((lamInit : ℝ) : EReal) := by
  refine (EReal.coe_toReal ?_ ?_).symm <;> simp [Ideal.ofBits, Ideal.ieee, -EReal.coe_mul]

/-- Lane `l` of component `a` of a head. -/
def lane (a : ℕ) (l : Fin 64) : Fin 128 := ⟨a % 2 * 64 + l, by omega⟩

/-- The score of a key for a query, of one component. -/
def score (q : Fin 128 → ℝ) (k : Fin 4096 → Fin 128 → ℝ) (a : ℕ) (κ : Fin 4096) : ℝ := ∑ l, q (lane a l) * (1 / 8) * k κ (lane a l)

/-- The same score over all the lanes, the other component's at zero, and to base two. -/
theorem score_lanes (q k : Fin 128 → ℝ) (a : ℕ) (ha : a < 2) :
    ∑ x : Fin 128, k x * (if (x : ℕ) / 64 = a then q x * (1 / 8) / Real.log 2 else 0)
      = (∑ l, q (lane a l) * (1 / 8) * k (lane a l)) / Real.log 2 := by
  have h : ∀ f : Fin 128 → ℝ, ∑ x, f x = ∑ l, f (lane 0 l) + ∑ l, f (lane 1 l) := by
    intro f
    rw [show ∑ x, f x = ∑ x : Fin (64 + 64), f x from rfl, Fin.sum_univ_add]
    exact congrArg₂ (· + ·) (Finset.sum_congr rfl fun l _ => congrArg f (Fin.ext (by simp [lane])))
      (Finset.sum_congr rfl fun l _ => congrArg f (Fin.ext (by simp [lane, add_comm])))
  have e : ∀ b l, ((lane b l : Fin 128) : ℕ) / 64 = b % 2 := by intro b l; simp only [lane]; omega
  rw [h, Finset.sum_div]
  simp only [e]
  obtain rfl | rfl : a = 0 ∨ a = 1 := by omega
  · simp only [Nat.zero_mod, ↓reduceIte, Nat.one_mod, one_ne_zero, mul_zero, Finset.sum_const_zero, add_zero]
    exact Finset.sum_congr rfl fun l _ => by ring
  · simp only [Nat.zero_mod, zero_ne_one, ↓reduceIte, Nat.one_mod, mul_zero, Finset.sum_const_zero, zero_add]
    exact Finset.sum_congr rfl fun l _ => by ring

/-- The difference of the two components' weighted means. -/
def diffOut (q : Fin 128 → ℝ) (k : Fin 4096 → Fin 128 → ℝ) (v : Fin 128 → Fin 4096 → ℝ) (lam : ℝ) (p : ℕ) (d : Fin 128) : ℝ :=
  mean (score q k 0) (v d) p - lam * mean (score q k 1) (v d) p

/-- A row over the root of its mean square, times a gain and a constant. -/
def normed (o : Fin 128 → EReal) (g : EReal) (d : Fin 128) : EReal :=
  o d * Ideal.rsqrt (Ideal.div (∑ x, o x * o x) (Ideal.ofBits .f32 0x43000000#32) + Ideal.ofBits .f32 0x358637BD#32) * g
    * Ideal.ofBits .f32 0x3F4CCCCD#32

/-- Lambda, of its four vectors. -/
def lambda (a b c d : Fin 64 → ℝ) : ℝ := Real.exp (∑ x, a x * b x) - Real.exp (∑ x, c x * d x) + lamInit

/-- The score of a key for a query, the sum of the key's three parts (the negative of its logarithm, to base two) added. -/
def foxScore (q : Fin 128 → ℝ) (k a : Fin 4096 → Fin 128 → ℝ) (κ : Fin 4096) : ℝ :=
  (∑ x, q x / Real.sqrt 128 * k κ x) + (a κ 0 + a κ 1 + a κ 2) * Real.log 2

/-- The sum of the first three lanes. -/
theorem sum_three (a : Fin 128 → ℝ) : (∑ x : Fin 128, if (x : ℕ) < 3 then a x else 0) = a 0 + a 1 + a 2 := by
  have e : (∑ x : Fin (3 + 125), if (x : ℕ) < 3 then a x else 0) = a 0 + a 1 + a 2 := by
    rw [Fin.sum_univ_add]
    simp only [Fin.val_castAdd, Fin.val_natAdd, Fin.is_lt, ↓reduceIte, Nat.not_lt.mpr (Nat.le_add_right 3 _), Finset.sum_const_zero, add_zero]
    rw [Fin.sum_univ_three]
    rfl
  exact e

/-- The same score to base two, the scale on the query. -/
theorem foxScore_base_two (q : Fin 128 → ℝ) (k a : Fin 4096 → Fin 128 → ℝ) (κ : Fin 4096) :
    (∑ x, k κ x * (q x * (Real.sqrt 128 * Real.log 2)⁻¹)) + (∑ x : Fin 128, if (x : ℕ) < 3 then a κ x else 0) = foxScore q k a κ / Real.log 2 := by
  have h : Real.log 2 ≠ 0 := (Real.log_pos (by norm_num)).ne'
  rw [sum_three, foxScore, add_div, mul_div_assoc, div_self h, mul_one, Finset.sum_div]
  congr 1
  exact Finset.sum_congr rfl fun x _ => by rw [mul_inv]; ring

/-- A shift of a row's scores leaves the probabilities as they are. -/
theorem prob_shift (y : Fin 4096 → ℝ) (c : ℝ) (p : ℕ) : prob (fun κ => y κ + c) p = prob y p := by
  have e : ∀ κ, weight (fun κ => y κ + c) p κ = weight y p κ * Real.exp c := by
    intro κ
    unfold weight
    split
    · exact Real.exp_add _ _
    · simp
  funext κ
  unfold prob
  simp only [e]
  rw [← Finset.sum_mul, mul_div_mul_right _ _ (Real.exp_pos c).ne']

end Cert.Softmax
-- ==== Proof.TileVal.lean ====
/- The tile of the result at an index: the block by block softmax of each component, their difference, the norm. -/
module

public import proofs.«01_k».proof.Proof.Tile
public import proofs.«01_k».proof.Proof.Softmax
public import Idealize.ShloMosaic.Lib.WordCmp

@[expose] public section

set_option maxRecDepth 16384

noncomputable section

namespace Cert.KernelIdeal.Val

open Cert.Softmax
open Cert.KernelIdeal Cert.KernelIdeal.Gen Idealize.ShloMosaic Idealize.ShloMosaic.TcCoe Idealize.SL.Sem

theorem init_max (c : Fin 1024) : (k0_pay19 : FVec Ideal S1x1x1024 .f32) (ix3 0 0 c) = (⊥ : EReal) := by
  pointwise [k0_pay19]
  exact ofBits_neg_inf

theorem init_acc (d : Fin 144) (c : Fin 1024) : (k0_pay20 : FVec Ideal S1x144x1024 .f32) (ix3 0 d c) = (0 : EReal) := by
  pointwise [k0_pay20]

/-- The new maximum of a column. -/
theorem nextMax_at (s : FVec Ideal S512x1024 .f32) (M : Vec Ideal S1x1x1024 .f32) (c : Fin 1024) :
    nextMax s M (ix3 0 0 c) = max (M (ix3 0 0 c)) (Finset.univ.fold max (⊥ : EReal) fun r : Fin 512 => s (ix2 r c)) := by
  pointwise [nextMax, k0_pay26, k0_pay24, k0_pay23]
  rw [ofBits_neg_inf]

/-- The value a row of the extended values has: the value, then one. -/
def ext (v : Vec Ideal S1x1x128x512 .bf16) (d : Fin 144) (r : Fin 512) : EReal := if h : (d : ℕ) < 128 then v (ix4 0 0 ⟨d, h⟩ r) else 1

/-- The new accumulator at a row and a column. -/
theorem nextAcc_at (s : FVec Ideal S512x1024 .f32) (v : Vec Ideal S1x1x128x512 .bf16) (M : Vec Ideal S1x1x1024 .f32) (A : Vec Ideal S1x144x1024 .f32)
    (d : Fin 144) (c : Fin 1024) :
    nextAcc s v M A (ix3 0 d c) = Ideal.exp2 (M (ix3 0 0 c) - nextMax s M (ix3 0 0 c)) * A (ix3 0 d c)
      + ∑ r, ext v d r * Ideal.exp2 (s (ix2 r c) - nextMax s M (ix3 0 0 c)) := by
  rw [nextMax_at]
  pointwise [nextAcc, k0_pay25, k0_pay24, k0_pay23]
  rw [ofBits_neg_inf]
  rfl

/-- The choice of the lanes of a component. -/
theorem select_lt (x : Fin 128) (y z : EReal) : Scalar.select (IntOp.cmpi .slt (BitVec.ofNat 32 x) 64#32) y z = if (x : ℕ) / 64 = 0 then y else z := by
  rw [WordCmp.cmpi_slt_ofNat (by omega) (by omega)]
  by_cases h : (x : ℕ) < 64
  · have e : (x : ℕ) / 64 = 0 := by omega
    simp [h, e, Scalar.select]
  · have e : (x : ℕ) / 64 ≠ 0 := by omega
    simp [h, e, Scalar.select]

theorem select_ge (x : Fin 128) (y z : EReal) : Scalar.select (IntOp.cmpi .sge (BitVec.ofNat 32 x) 64#32) y z = if (x : ℕ) / 64 = 1 then y else z := by
  rw [WordCmp.cmpi_sge_ofNat (by omega) (by omega)]
  by_cases h : 64 ≤ (x : ℕ)
  · have e : (x : ℕ) / 64 = 1 := by omega
    simp [h, e, Scalar.select]
  · have e : (x : ℕ) / 64 ≠ 1 := by omega
    simp [h, e, Scalar.select]

/-- The choice of the diagonal's mask. -/
theorem select_diag (r : Fin 512) (c : Fin 1024) (y z : EReal) :
    Scalar.select (IntOp.cmpi .sle (BitVec.ofNat 32 r)
        (Scalar.select (IntOp.cmpi .sge (BitVec.ofNat 32 c) 512#32) (IntOp.subi (BitVec.ofNat 32 c) 512#32) (BitVec.ofNat 32 c))) y z
      = if (r : ℕ) ≤ (c : ℕ) % 512 then y else z := by
  have e : Scalar.select (IntOp.cmpi .sge (BitVec.ofNat 32 c) 512#32) (IntOp.subi (BitVec.ofNat 32 c) 512#32) (BitVec.ofNat 32 c)
      = BitVec.ofNat 32 ((c : ℕ) % 512) := by
    rw [WordCmp.cmpi_sge_ofNat (by omega) (by omega)]
    by_cases h : 512 ≤ (c : ℕ)
    · have e : (c : ℕ) % 512 = c - 512 := by omega
      simp only [h, decide_true, BitVec.ofBool_true, Scalar.select]
      rw [e]
      apply BitVec.eq_of_toNat_eq
      simp [IntOp.subi]
      omega
    · have e : (c : ℕ) % 512 = c := by omega
      simp [h, e, Scalar.select]
  rw [e, WordCmp.cmpi_sle_ofNat (by omega) (by omega)]
  by_cases h : (r : ℕ) ≤ (c : ℕ) % 512 <;> simp [h, Scalar.select]

/-- The position of a column's query. -/
def pos (i : ℕ) (c : Fin 1024) : Fin 4096 := ⟨i % 8 * 512 + (c : ℕ) % 512, by omega⟩

/-- The scale of the queries. -/
abbrev qscale : EReal := (Named.named κ "qscale" 1043900987#32 : Ideal .f32)

theorem qscale_eq : qscale = (((8 * Real.log 2)⁻¹ : ℝ) : EReal) := IdealRules.named_const.ideal_named_scalar _ _ _ _ rfl

/-- A score, the lanes of the other component at zero. -/
def dot (Q K : Vec Ideal S1x1x4096x128 .bf16) (i j : ℕ) (r : Fin 512) (c : Fin 1024) : EReal :=
  ∑ x : Fin 128, K (ix4 0 0 (key j r) x) * (if (x : ℕ) / 64 = (c : ℕ) / 512 then Q (ix4 0 0 (pos i c) x) * qscale else 0)

/-- The stacked queries at a lane. -/
theorem stack_at (Q : Vec Ideal S1x1x4096x128 .bf16) (i : ℕ) (c : Fin 1024) (x : Fin 128)
    (h1 : ∀ h : (c : ℕ) < 512, i % 8 * 512 + (c : ℕ) < 4096) (h2 : ∀ h : ¬ (c : ℕ) < 512, i % 8 * 512 + ((c : ℕ) - 512) < 4096) :
    (if h : (c : ℕ) < 512 then Scalar.select (IntOp.cmpi .slt (BitVec.ofNat 32 x) 64#32) (Q (ix4 0 0 ⟨i % 8 * 512 + c, h1 h⟩ x) * qscale) (0 : EReal)
      else Scalar.select (IntOp.cmpi .sge (BitVec.ofNat 32 x) 64#32) (Q (ix4 0 0 ⟨i % 8 * 512 + (c - 512), h2 h⟩ x) * qscale) 0)
      = if (x : ℕ) / 64 = (c : ℕ) / 512 then Q (ix4 0 0 (pos i c) x) * qscale else 0 := by
  by_cases h : (c : ℕ) < 512
  · have e : (c : ℕ) / 512 = 0 := by omega
    have e' : (⟨i % 8 * 512 + c, h1 h⟩ : Fin 4096) = pos i c := by apply Fin.ext; simp only [pos]; omega
    rw [dif_pos h, select_lt, e, e']
  · have e : (c : ℕ) / 512 = 1 := by omega
    have e' : (⟨i % 8 * 512 + (c - 512), h2 h⟩ : Fin 4096) = pos i c := by apply Fin.ext; simp only [pos]; omega
    rw [dif_neg h, select_ge, e, e']

theorem score_at (Q K : Vec Ideal S1x1x4096x128 .bf16) (i j : ℕ) (r : Fin 512) (c : Fin 1024) : score Q K i j (ix2 r c) = dot Q K i j r c := by
  pointwise [score, stacked, k0_pay22, k0_pay3, rows]
  unfold dot
  exact Finset.sum_congr rfl fun x _ => congrArg _ (stack_at Q i c x (by omega) (by omega))

theorem scoreDiag_at (Q K : Vec Ideal S1x1x4096x128 .bf16) (i : ℕ) (r : Fin 512) (c : Fin 1024) :
    scoreDiag Q K i (ix2 r c) = if (r : ℕ) ≤ (c : ℕ) % 512 then dot Q K i i r c else ⊥ := by
  pointwise [scoreDiag, stacked, k0_pay7, k0_pay3, rows]
  rw [select_diag, ofBits_neg_inf]
  congr 1
  unfold dot
  exact Finset.sum_congr rfl fun x _ => congrArg _ (stack_at Q i c x (by omega) (by omega))

theorem cols_at (X : Vec Ideal S1x1x128x4096 .bf16) (j : ℕ) (d : Fin 128) (r : Fin 512) : cols X j (ix4 0 0 d r) = X (ix4 0 0 d (key j r)) := by
  pointwise [cols]
  rfl

theorem lamOf_at (L : Vec Ideal S8x128 .f32) :
    lamOf L (ix2 0 0) = Ideal.exp (∑ x : Fin 128, L (ix2 0 x) * L (ix2 1 x)) - Ideal.exp (∑ x : Fin 128, L (ix2 2 x) * L (ix2 3 x)) + ((lamInit : ℝ) : EReal) := by
  pointwise [lamOf, lamRow, k0_pay2]
  rw [ofBits_lamInit]

/-- A lane's quotient of a column. -/
def quot (A : Vec Ideal S1x144x1024 .f32) (d : Fin 128) (c : Fin 1024) : EReal := Ideal.div (A (ix3 0 ⟨d, by omega⟩ c)) (A (ix3 0 128 c))

/-- The finished tile at an index. -/
theorem finish_at (l : FVec Ideal S1x1 .f32) (A : Vec Ideal S1x144x1024 .f32) (G : Vec Ideal S128x1 .f32) (r : Fin 512) (d : Fin 128) :
    finish l A G (ix4 0 0 r d)
      = normed (fun d => quot A d ⟨r, by omega⟩ - l (ix2 0 0) * quot A d ⟨512 + r, by omega⟩) (G (ix2 d 0)) d := by
  pointwise [finish, sums, total, k0_pay33]
  rfl

section Real

variable (q k : Fin 4096 → Fin 128 → ℝ) (v : Fin 128 → Fin 4096 → ℝ) (Q K : Vec Ideal S1x1x4096x128 .bf16) (W : Vec Ideal S1x1x128x4096 .bf16)
  (hQ : ∀ p x, Q (ix4 0 0 p x) = ((q p x : ℝ) : EReal)) (hK : ∀ p x, K (ix4 0 0 p x) = ((k p x : ℝ) : EReal))
  (hW : ∀ d p, W (ix4 0 0 d p) = ((v d p : ℝ) : EReal))

include hQ hK in
/-- A score is the component's score, to base two. -/
theorem dot_real (i j : ℕ) (r : Fin 512) (c : Fin 1024) :
    dot Q K i j r c = ((Softmax.score (q (pos i c)) k ((c : ℕ) / 512) (key j r) / Real.log 2 : ℝ) : EReal) := by
  have e : ∀ x : Fin 128, K (ix4 0 0 (key j r) x) * (if (x : ℕ) / 64 = (c : ℕ) / 512 then Q (ix4 0 0 (pos i c) x) * qscale else 0)
      = ((k (key j r) x * (if (x : ℕ) / 64 = (c : ℕ) / 512 then q (pos i c) x * (1 / 8) / Real.log 2 else 0) : ℝ) : EReal) := by
    intro x
    have e : q (pos i c) x * (1 / 8) / Real.log 2 = q (pos i c) x * (8 * Real.log 2)⁻¹ := by rw [mul_inv]; ring
    rw [EReal.coe_mul, hK, hQ, qscale_eq, ← EReal.coe_mul, e]
    split <;> rfl
  unfold dot
  simp only [e, coe_sum]
  rw [score_lanes _ _ _ (by omega)]
  rfl

/-- The masked scores of a column. -/
abbrev scores (i : ℕ) (c : Fin 1024) (j : ℕ) (r : Fin 512) : EReal :=
  masked ((key j r : ℕ) ≤ i * 512 + (c : ℕ) % 512) (Softmax.score (q (pos i c)) k ((c : ℕ) / 512) (key j r) / Real.log 2)

include hQ hK in
/-- The scores before the diagonal. -/
theorem score_real (i j : ℕ) (hi : i < 8) (hj : j < i) (r : Fin 512) (c : Fin 1024) : score Q K i j (ix2 r c) = scores q k i c j r := by
  rw [score_at, dot_real q k Q K hQ hK]
  have h : (key j r : ℕ) ≤ i * 512 + (c : ℕ) % 512 := by simp only [key]; omega
  rw [scores, masked, if_pos h]

include hQ hK in
/-- The scores on the diagonal. -/
theorem scoreDiag_real (i : ℕ) (hi : i < 8) (r : Fin 512) (c : Fin 1024) : scoreDiag Q K i (ix2 r c) = scores q k i c i r := by
  rw [scoreDiag_at, dot_real q k Q K hQ hK, scores, masked]
  have e : ((key i r : ℕ) ≤ i * 512 + (c : ℕ) % 512) = ((r : ℕ) ≤ (c : ℕ) % 512) := by
    simp only [key, eq_iff_iff]; omega
  simp only [e]

include hQ hK in
/-- The running maximum before the diagonal. -/
theorem runMax_real (i : ℕ) (hi : i < 8) (c : Fin 1024) (j : ℕ) (hj : j ≤ i) : runMax Q K i j (ix3 0 0 c) = Softmax.runMax (scores q k i c) j := by
  induction j with
  | zero => exact init_max c
  | succ j ih =>
    rw [runMax, nextMax_at, ih (by omega), Softmax.runMax]
    simp only [score_real q k Q K hQ hK i j hi (by omega)]

include hW in
/-- The extended values of a block. -/
theorem ext_real (d : Fin 144) (j : ℕ) (r : Fin 512) :
    ext (cols W j) d r = if h : (d : ℕ) < 128 then ((v ⟨d, h⟩ (key j r) : ℝ) : EReal) else 1 := by
  unfold ext
  split
  · rw [cols_at, hW]
  · rfl

include hQ hK hW in
/-- The accumulator before the diagonal. -/
theorem runAcc_real (i : ℕ) (hi : i < 8) (d : Fin 144) (c : Fin 1024) (j : ℕ) (hj : j ≤ i) :
    runAcc Q K W i j (ix3 0 d c)
      = Softmax.runAcc (scores q k i c) (fun j r => if h : (d : ℕ) < 128 then ((v ⟨d, h⟩ (key j r) : ℝ) : EReal) else 1) j := by
  induction j with
  | zero => exact init_acc d c
  | succ j ih =>
    have e : nextMax (score Q K i j) (runMax Q K i j) (ix3 0 0 c) = Softmax.runMax (scores q k i c) (j + 1) :=
      runMax_real q k Q K hQ hK i hi c (j + 1) hj
    rw [runAcc, nextAcc_at, ih (by omega), e, runMax_real q k Q K hQ hK i hi c j (by omega), Softmax.runAcc]
    simp only [score_real q k Q K hQ hK i j hi (by omega), ext_real v W hW]

include hQ hK hW in
/-- The accumulator after the diagonal. -/
theorem lastAcc_real (i : ℕ) (hi : i < 8) (d : Fin 144) (c : Fin 1024) :
    lastAcc Q K W i (ix3 0 d c)
      = Softmax.runAcc (scores q k i c) (fun j r => if h : (d : ℕ) < 128 then ((v ⟨d, h⟩ (key j r) : ℝ) : EReal) else 1) (i + 1) := by
  have e : nextMax (scoreDiag Q K i) (runMax Q K i i) (ix3 0 0 c) = Softmax.runMax (scores q k i c) (i + 1) := by
    rw [nextMax_at, runMax_real q k Q K hQ hK i hi c i le_rfl, Softmax.runMax]
    simp only [scoreDiag_real q k Q K hQ hK i hi]
  rw [lastAcc, nextAcc_at, e, runMax_real q k Q K hQ hK i hi c i le_rfl, runAcc_real q k v Q K W hQ hK hW i hi d c i le_rfl, Softmax.runAcc]
  simp only [scoreDiag_real q k Q K hQ hK i hi, ext_real v W hW]

include hQ hK hW in
/-- A quotient is the component's weighted mean of the values. -/
theorem quot_real (i : ℕ) (hi : i < 8) (d : Fin 128) (c : Fin 1024) :
    quot (lastAcc Q K W i) d c = ((mean (Softmax.score (q (pos i c)) k ((c : ℕ) / 512)) (v d) (i * 512 + (c : ℕ) % 512) : ℝ) : EReal) := by
  unfold quot
  rw [lastAcc_real q k v Q K W hQ hK hW i hi, lastAcc_real q k v Q K W hQ hK hW i hi]
  have h1 : ((128 : Fin 144) : ℕ) = 128 := rfl
  simp only [Fin.is_lt, ↓reduceDIte, h1, lt_irrefl]
  exact run_attn (Softmax.score (q (pos i c)) k ((c : ℕ) / 512)) (v d) i hi ((c : ℕ) % 512) (Nat.mod_lt _ (by decide))

include hQ hK hW in
/-- The tile at an index. -/
theorem tileOut_real (L : Vec Ideal S8x128 .f32) (G : Vec Ideal S128x1 .f32) (lam : ℝ) (hL : lamOf L (ix2 0 0) = ((lam : ℝ) : EReal))
    (i : ℕ) (hi : i < 8) (r : Fin 512) (d : Fin 128) (p : Fin 4096) (hp : (p : ℕ) = i * 512 + r) :
    tileOut Q K W L G i (ix4 0 0 r d)
      = normed (fun d => ((diffOut (q p) k v lam p d : ℝ) : EReal)) (G (ix2 d 0)) d := by
  have e1 : pos i ⟨r, by omega⟩ = p := by apply Fin.ext; simp only [pos]; omega
  have e2 : pos i ⟨512 + r, by omega⟩ = p := by apply Fin.ext; simp only [pos]; omega
  have f1 : (r : ℕ) / 512 = 0 := by omega
  have f2 : (512 + (r : ℕ)) / 512 = 1 := by omega
  have g1 : i * 512 + (r : ℕ) % 512 = p := by omega
  have g2 : i * 512 + (512 + (r : ℕ)) % 512 = p := by omega
  rw [tileOut, finish_at]
  simp only [quot_real q k v Q K W hQ hK hW i hi, e1, e2, f1, f2, g1, g2, hL, ← EReal.coe_mul, ← EReal.coe_sub]
  rfl

end Real

end Cert.KernelIdeal.Val
-- ==== Proof.RefVal.lean ====
/- The reference at an index: the two softmaxes, their difference, the norm. -/
module

public import proofs.«01_k».proof.Proof.Gen.ReferenceIdeal.Read
public import Idealize.ShloMosaic.Lib.Pipeline.ValueKit
public import Idealize.ShloMosaic.Lib.WordCmp
public import proofs.«01_k».proof.Proof.Softmax

@[expose] public section

set_option maxRecDepth 16384

noncomputable section

namespace Cert.ReferenceIdeal.Val

open Cert.Softmax
open Cert.ReferenceIdeal Cert.ReferenceIdeal.Gen Cert.ReferenceIdeal.Read Idealize.ShloMosaic Idealize.ShloMosaic.TcCoe Idealize.SL.Sem

/-- The comparison of two positions, as a choice. -/
theorem select_sge (p k : Fin 4096) (x y : EReal) :
    Scalar.select (IntOp.cmpi .sge (BitVec.ofNat 32 p) (BitVec.ofNat 32 k)) x y = if (k : ℕ) ≤ p then x else y := by
  rw [WordCmp.cmpi_sge_ofNat (by omega) (by omega)]
  by_cases h : (k : ℕ) ≤ p <;> simp [h, Scalar.select]

variable (q k : Fin 8 → Fin 4 → Fin 4096 → Fin 128 → ℝ)

/-- The queries and keys as an argument of the program. -/
def heads (q : Fin 8 → Fin 4 → Fin 4096 → Fin 128 → ℝ) : Vec Ideal S8x4x4096x128 .bf16 := fun i => ((q (i 0) (i 1) (i 2) (i 3) : ℝ) : EReal)

/-- The masked score of the first component. -/
theorem first_score (b : Fin 8) (h : Fin 4) (p κ : Fin 4096) :
    val_main_v27 (F := Ideal) (heads q) (heads k) (ix4 b h p κ) = masked ((κ : ℕ) ≤ p) (Softmax.score (q b h p) (k b h) 0 κ) := by
  pointwise [val_main_v27, val_main_v26, val_main_v24, val_main_v25, val_main_call0_v2, val_main_call0_v1, val_main_call0_v0, val_main_cst_3,
    val_main_v0, val_main_v1, val_main_v5, val_main_v4, val_main_cst, val_main_v23, val_main_v22, val_main_v21, val_main_v20, val_main_v19, val_main_v18]
  rw [select_sge, ofBits_eighth]
  simp only [heads, ← EReal.coe_mul, coe_sum, masked]
  have e : id (constant (F := Ideal) S_ FTy.f32 4286578688#32) ix0 = (⊥ : EReal) := ofBits_neg_inf
  rw [e]
  rfl

/-- The masked score of the second component. -/
theorem second_score (b : Fin 8) (h : Fin 4) (p κ : Fin 4096) :
    val_main_v42 (F := Ideal) (heads q) (heads k) (ix4 b h p κ) = masked ((κ : ℕ) ≤ p) (Softmax.score (q b h p) (k b h) 1 κ) := by
  pointwise [val_main_v42, val_main_v41, val_main_v39, val_main_v40, val_main_call1_v2, val_main_call1_v1, val_main_call1_v0, val_main_cst_7,
    val_main_v0, val_main_v1, val_main_v5, val_main_v4, val_main_cst, val_main_v23, val_main_v22, val_main_v21, val_main_v20, val_main_v19, val_main_v18]
  rw [select_sge, ofBits_eighth]
  simp only [heads, ← EReal.coe_mul, coe_sum, masked]
  have e : id (constant (F := Ideal) S_ FTy.f32 4286578688#32) ix0 = (⊥ : EReal) := ofBits_neg_inf
  rw [e]
  rfl

/-- The largest score of a row, first component. -/
theorem first_max (x0 x1 : Vec Ideal S8x4x4096x128 .bf16) (b : Fin 8) (h : Fin 4) (p : Fin 4096) :
    val_main_v28 (F := Ideal) x0 x1 (ix3 b h p)
      = Finset.univ.fold max (Ideal.ofBits .f32 0xFF800000#32) fun κ : Fin 4096 => val_main_v27 (F := Ideal) x0 x1 (ix4 b h p κ) := by
  unfold val_main_v28
  generalize val_main_v27 (F := Ideal) x0 x1 = S
  pointwise [val_main_cst_4]

/-- The largest score of a row, second component. -/
theorem second_max (x0 x1 : Vec Ideal S8x4x4096x128 .bf16) (b : Fin 8) (h : Fin 4) (p : Fin 4096) :
    val_main_v43 (F := Ideal) x0 x1 (ix3 b h p)
      = Finset.univ.fold max (Ideal.ofBits .f32 0xFF800000#32) fun κ : Fin 4096 => val_main_v42 (F := Ideal) x0 x1 (ix4 b h p κ) := by
  unfold val_main_v43
  generalize val_main_v42 (F := Ideal) x0 x1 = S
  pointwise [val_main_cst_8]

/-- The probability of a key, first component. -/
theorem first_prob (b : Fin 8) (h : Fin 4) (p κ : Fin 4096) :
    val_main_v38 (F := Ideal) (heads q) (heads k) (ix4 b h p κ) = ((prob (Softmax.score (q b h p) (k b h) 0) p κ : ℝ) : EReal) := by
  obtain ⟨μ, hμ⟩ := row_max_real (Softmax.score (q b h p) (k b h) 0) p
  have hw : ∀ κ', val_main_v34 (F := Ideal) (heads q) (heads k) (ix4 b h p κ')
      = Ideal.exp (masked ((κ' : ℕ) ≤ p) (Softmax.score (q b h p) (k b h) 0 κ') - (μ : EReal)) := by
    intro κ'
    rw [val_main_v34_apply, val_main_v33_apply, val_main_v32_apply, val_main_v31_apply, val_main_v30_apply, val_main_v29_apply, val_main_cst_5_apply]
    have e : idx_main_v31 (idx_main_v32 (ix4 b h p κ')) = ix3 b h p := by blk_ext
    rw [e, first_max, first_score]
    simp only [first_score, Ideal.ofBits_def, ofBits_neg_inf]
    rw [← hμ]
    rfl
  rw [val_main_v38_apply, val_main_v37_apply, val_main_v36_apply, val_main_v35_apply]
  have e : ∀ κ', idx_main_v35 (idx_main_v36 (idx_main_v37 (ix4 b h p κ))) κ' = ix4 b h p κ' := by intro κ'; blk_ext
  simp only [e, hw]
  rw [← softmax_at _ _ μ]
  have e0 : val_main_cst_6 (F := Ideal) (Shape.Idx.first h_S_) = (0 : EReal) := Ideal.ofBits_zero_f32
  rw [e0, zero_add]
  rfl

/-- The probability of a key, second component. -/
theorem second_prob (b : Fin 8) (h : Fin 4) (p κ : Fin 4096) :
    val_main_v53 (F := Ideal) (heads q) (heads k) (ix4 b h p κ) = ((prob (Softmax.score (q b h p) (k b h) 1) p κ : ℝ) : EReal) := by
  obtain ⟨μ, hμ⟩ := row_max_real (Softmax.score (q b h p) (k b h) 1) p
  have hw : ∀ κ', val_main_v49 (F := Ideal) (heads q) (heads k) (ix4 b h p κ')
      = Ideal.exp (masked ((κ' : ℕ) ≤ p) (Softmax.score (q b h p) (k b h) 1 κ') - (μ : EReal)) := by
    intro κ'
    rw [val_main_v49_apply, val_main_v48_apply, val_main_v47_apply, val_main_v46_apply, val_main_v45_apply, val_main_v44_apply, val_main_cst_9_apply]
    have e : idx_main_v46 (idx_main_v47 (ix4 b h p κ')) = ix3 b h p := by blk_ext
    rw [e, second_max, second_score]
    simp only [second_score, Ideal.ofBits_def, ofBits_neg_inf]
    rw [← hμ]
    rfl
  rw [val_main_v53_apply, val_main_v52_apply, val_main_v51_apply, val_main_v50_apply]
  have e : ∀ κ', idx_main_v50 (idx_main_v51 (idx_main_v52 (ix4 b h p κ))) κ' = ix4 b h p κ' := by intro κ'; blk_ext
  simp only [e, hw]
  rw [← softmax_at _ _ μ]
  have e0 : val_main_cst_10 (F := Ideal) (Shape.Idx.first h_S_) = (0 : EReal) := Ideal.ofBits_zero_f32
  rw [e0, zero_add]
  rfl

/-- A real vector as an argument of the program. -/
def pair (a : Fin 64 → ℝ) : Vec Ideal S1x64 .f32 := fun i => ((a (i 1) : ℝ) : EReal)

/-- The transposed values as an argument of the program. -/
def headsT (v : Fin 8 → Fin 4 → Fin 128 → Fin 4096 → ℝ) : Vec Ideal S8x4x128x4096 .bf16 := fun i => ((v (i 0) (i 1) (i 2) (i 3) : ℝ) : EReal)

theorem pair_at (a : Fin 64 → ℝ) (x : Fin 64) : pair a (ix2 0 x) = ((a x : ℝ) : EReal) := rfl

theorem headsT_at (v : Fin 8 → Fin 4 → Fin 128 → Fin 4096 → ℝ) (b : Fin 8) (h : Fin 4) (d : Fin 128) (κ : Fin 4096) :
    headsT v (ix4 b h d κ) = ((v b h d κ : ℝ) : EReal) := rfl

variable (v : Fin 8 → Fin 4 → Fin 128 → Fin 4096 → ℝ) (l3 l4 l5 l6 : Fin 64 → ℝ)

/-- The difference of the two attentions. -/
theorem diff_at (b : Fin 8) (h : Fin 4) (p : Fin 4096) (d : Fin 128) :
    val_main_v57 (F := Ideal) (heads q) (heads k) (headsT v) (pair l3) (pair l4) (pair l5) (pair l6) (ix4 b h p d)
      = ((diffOut (q b h p) (k b h) (v b h) (lambda l3 l4 l5 l6) p d : ℝ) : EReal) := by
  pointwise [val_main_v57, val_main_v56, val_main_v55, val_main_v54, val_main_v17, val_main_v16, val_main_v15, val_main_v14, val_main_v13, val_main_v12,
    val_main_v11, val_main_v10, val_main_v9, val_main_v8, val_main_v7, val_main_v6, val_main_v3, val_main_v2, val_main_cst_0, val_main_cst_1, val_main_cst_2]
  simp only [first_prob, second_prob, pair_at, headsT_at, ofBits_lamInit, ← EReal.coe_mul, coe_sum, Ideal.exp_coe, ← EReal.coe_sub, ← EReal.coe_add]
  congr 1
  unfold diffOut mean lambda
  rw [Finset.mul_sum, ← Finset.sum_sub_distrib]
  exact Finset.sum_congr rfl fun κ _ => by ring

/-- The reference's result at an index. -/
theorem result_at (x7 : Vec Ideal S1x128 .f32) (b : Fin 8) (h : Fin 4) (p : Fin 4096) (d : Fin 128) :
    val_main_v74 (F := Ideal) (heads q) (heads k) (headsT v) (pair l3) (pair l4) (pair l5) (pair l6) x7 (ix4 b h p d)
      = normed (fun d => ((diffOut (q b h p) (k b h) (v b h) (lambda l3 l4 l5 l6) p d : ℝ) : EReal)) (x7 (ix2 0 d)) d := by
  pointwise [val_main_v74, val_main_v73, val_main_v72, val_main_v71, val_main_v70, val_main_v69, val_main_v68, val_main_v67, val_main_v66, val_main_v65,
    val_main_v64, val_main_v63, val_main_v62, val_main_v61, val_main_v60, val_main_v59, val_main_v58, val_main_cst_11, val_main_cst_12, val_main_cst_13, val_main_cst_14]
  simp only [diff_at]
  rfl

end Cert.ReferenceIdeal.Val
-- ==== Proof.Block.lean ====
/- What one grid point of the attention leaves in its block. -/
module

public import proofs.«01_k».proof.Proof.Tile

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 8000000 in
/-- What a grid point leaves in its block of the result. -/
theorem outsAt_eq (c : Dev nD) (t : Fin cfg0.N) (y : S1x1x4096x128.Idx) :
    outsAt0 m c t y = blockOut (iblk m c 0 t) (iblk m c 1 t) (iblk m c 2 t) (iblk m c 3 t) (iblk m c 4 t) y := by
  have hQ : (ms0_0 t).view.read (Elt Ideal) ((hs0_0 t).unread (iblk m c 0 t)) = iblk m c 0 t := Memref.IsWhole.read_unread _ _
  have hK : (ms0_1 t).view.read (Elt Ideal) ((hs0_1 t).unread (iblk m c 1 t)) = iblk m c 1 t := Memref.IsWhole.read_unread _ _
  have hW : (ms0_2 t).view.read (Elt Ideal) ((hs0_2 t).unread (iblk m c 2 t)) = iblk m c 2 t := Memref.IsWhole.read_unread _ _
  unfold outsAt0
  frame_open
  simp (disch := decide) only [↓ View.readCov_skip, ↓ View.readCov_cons_toLoadRect, ↓ View.readCov_fill, ↓ readCov_sums, ↓ readCov_total]
  frame_out
  try rw [hQ]
  try rw [hK]
  rw [hW]
  canon_tiles x h
  all_goals first
    | (refine Eq.trans ?_ (blockOut_tile _ _ _ _ _ 0 y x (by omega) (by omega)).symm; rfl)
    | (refine Eq.trans ?_ (blockOut_tile _ _ _ _ _ 1 y x (by omega) (by omega)).symm; rfl)
    | (refine Eq.trans ?_ (blockOut_tile _ _ _ _ _ 2 y x (by omega) (by omega)).symm; rfl)
    | (refine Eq.trans ?_ (blockOut_tile _ _ _ _ _ 3 y x (by omega) (by omega)).symm; rfl)
    | (refine Eq.trans ?_ (blockOut_tile _ _ _ _ _ 4 y x (by omega) (by omega)).symm; rfl)
    | (refine Eq.trans ?_ (blockOut_tile _ _ _ _ _ 5 y x (by omega) (by omega)).symm; rfl)
    | (refine Eq.trans ?_ (blockOut_tile _ _ _ _ _ 6 y x (by omega) (by omega)).symm; rfl)
    | (refine Eq.trans ?_ (blockOut_tile _ _ _ _ _ 7 y x (by omega) (by omega)).symm; rfl)

end Cert.KernelIdeal.Val
-- ==== Proof.Final.lean ====
/- The result array of the kernel. -/
module

public import proofs.«01_k».proof.Proof.Tile
public import proofs.«01_k».proof.Proof.TileVal
public import proofs.«01_k».proof.Proof.RefVal
public import proofs.«01_k».proof.Proof.Block

@[expose] public section

set_option maxRecDepth 16384

noncomputable section

namespace Cert.KernelIdeal.Val

open Cert.Softmax
open Cert.ReferenceIdeal.Val (heads headsT pair)
open Cert.KernelIdeal Cert.KernelIdeal.Gen Idealize.ShloMosaic Idealize.ShloMosaic.TcCoe Idealize.SL.Sem
open Idealize.ShloMosaic.Pipeline (Dat)

/-- A grid point's blocks: its batch and its head, and the whole of the two small operands. -/
theorem idx : ∀ t : Fin cfg0.N,
    win0_0.index t = ![(t : ℕ) / 4, (t : ℕ) % 4, 0, 0] ∧ win0_1.index t = ![(t : ℕ) / 4, (t : ℕ) % 4, 0, 0]
      ∧ win0_2.index t = ![(t : ℕ) / 4, (t : ℕ) % 4, 0, 0] ∧ win0_3.index t = ![0, 0] ∧ win0_4.index t = ![0, 0]
      ∧ win0_5.index t = ![(t : ℕ) / 4, (t : ℕ) % 4, 0, 0] :=
  (by decide +kernel : ∀ t : Fin grid0.N,
    win0_0.index t = ![(t : ℕ) / 4, (t : ℕ) % 4, 0, 0] ∧ win0_1.index t = ![(t : ℕ) / 4, (t : ℕ) % 4, 0, 0]
      ∧ win0_2.index t = ![(t : ℕ) / 4, (t : ℕ) % 4, 0, 0] ∧ win0_3.index t = ![0, 0] ∧ win0_4.index t = ![0, 0]
      ∧ win0_5.index t = ![(t : ℕ) / 4, (t : ℕ) % 4, 0, 0])

variable (m : (ℓ : Loc nD τ sig) → Buf (Elt Ideal) ℓ) (c : Dev nD)

/-- The batch of a grid point. -/
def batch (t : Fin cfg0.N) : Fin 8 := ⟨(t : ℕ) / 4, by have : (t : ℕ) < 32 := t.isLt; omega⟩

/-- The head of a grid point. -/
def head (t : Fin cfg0.N) : Fin 4 := ⟨(t : ℕ) % 4, by omega⟩

/-- A grid point's queries: those of its batch and head. -/
theorem queries_at (t : Fin cfg0.N) (p : Fin 4096) (d : Fin 128) :
    iblk m c 0 t (ix4 0 0 p d) = m ((c : Thread nD τ).loc main_arg0) (ix4 (batch t) (head t) p d) := by
  blk_ext [iblk, V, idx t, batch, head]

/-- A grid point's keys. -/
theorem keys_at (t : Fin cfg0.N) (p : Fin 4096) (d : Fin 128) :
    iblk m c 1 t (ix4 0 0 p d) = m ((c : Thread nD τ).loc main_arg1) (ix4 (batch t) (head t) p d) := by
  blk_ext [iblk, V, idx t, batch, head]

/-- A grid point's values, a dimension to a row. -/
theorem values_at (t : Fin cfg0.N) (d : Fin 128) (p : Fin 4096) :
    iblk m c 2 t (ix4 0 0 d p) = m ((c : Thread nD τ).loc main_arg2) (ix4 (batch t) (head t) d p) := by
  blk_ext [iblk, V, idx t, batch, head]

/-- The gains, as a column. -/
theorem V_gains (d : Fin 128) : V m c main_v11 (ix2 d 0) = m ((c : Thread nD τ).loc main_arg7) (ix2 0 d) := by
  unfold V
  simp only [List.flatten_cons, List.flatten_nil, List.append_nil, hostOps0, hostOps0_1, hostOps0_2, List.cons_append, List.nil_append,
    StableHlo.TRef.binary, StableHlo.TRef.unary, StableHlo.TRef.toBuf, StableHlo.TRef.ofBuf, cast_eq]
  after_results_simp
  pointwise

/-- The four vectors of lambda, one to a row, the lanes from the 64th zero. -/
theorem V_lams (a : Fin 8) (x : Fin 128) : V m c main_v9 (ix2 a x)
    = if h : (a : ℕ) < 4 ∧ (x : ℕ) < 64 then
        (if (a : ℕ) < 1 then m ((c : Thread nD τ).loc main_arg3) (ix2 0 ⟨x, h.2⟩)
          else if (a : ℕ) - 1 < 1 then m ((c : Thread nD τ).loc main_arg4) (ix2 0 ⟨x, h.2⟩)
          else if (a : ℕ) - 1 - 1 < 1 then m ((c : Thread nD τ).loc main_arg5) (ix2 0 ⟨x, h.2⟩)
          else m ((c : Thread nD τ).loc main_arg6) (ix2 0 ⟨x, h.2⟩) : EReal)
      else 0 := by
  unfold V
  simp only [List.flatten_cons, List.flatten_nil, List.append_nil, hostOps0, hostOps0_1, hostOps0_2, List.cons_append, List.nil_append,
    StableHlo.TRef.binary, StableHlo.TRef.unary, StableHlo.TRef.toBuf, StableHlo.TRef.ofBuf, cast_eq]
  after_results_simp
  pointwise
  after_results_simp
  pointwise
  have e : (FloatOps.sitofp .f32 0#32 : Ideal .f32) = (0 : EReal) := by simp [FloatOps.sitofp]
  rw [e]
  rfl

/-- The sum over the lanes of two rows of lambda's operand. -/
theorem lanes_sum (f g : Fin 64 → ℝ) : (∑ x : Fin 128, (if h : (x : ℕ) < 64 then ((f ⟨x, h⟩ : ℝ) : EReal) else 0) * (if h : (x : ℕ) < 64 then ((g ⟨x, h⟩ : ℝ) : EReal) else 0))
    = ((∑ x, f x * g x : ℝ) : EReal) := by
  have e : ∀ x : Fin 128, (if h : (x : ℕ) < 64 then ((f ⟨x, h⟩ : ℝ) : EReal) else 0) * (if h : (x : ℕ) < 64 then ((g ⟨x, h⟩ : ℝ) : EReal) else 0)
      = (((if h : (x : ℕ) < 64 then f ⟨x, h⟩ * g ⟨x, h⟩ else 0) : ℝ) : EReal) := by
    intro x
    split
    · rw [EReal.coe_mul]
    · simp
  simp only [e, coe_sum]
  congr 1
  rw [show (128 : ℕ) = 64 + 64 from rfl, Fin.sum_univ_add]
  simp

/-- A grid point's gains. -/
theorem gains_at (t : Fin cfg0.N) (d : Fin 128) :
    iblk m c 4 t (ix2 d 0) = V m c main_v11 (ix2 d 0) := by
  blk_ext [iblk, idx t]

/-- A grid point's vectors of lambda. -/
theorem lams_at (t : Fin cfg0.N) (a : Fin 8) (x : Fin 128) :
    iblk m c 3 t (ix2 a x) = V m c main_v9 (ix2 a x) := by
  blk_ext [iblk, idx t]

/-- The kernel's lambda is the reference's. -/
theorem lam_block (t : Fin cfg0.N) (l3 l4 l5 l6 : Fin 64 → ℝ) (h3 : m ((c : Thread nD τ).loc main_arg3) = pair l3)
    (h4 : m ((c : Thread nD τ).loc main_arg4) = pair l4) (h5 : m ((c : Thread nD τ).loc main_arg5) = pair l5)
    (h6 : m ((c : Thread nD τ).loc main_arg6) = pair l6) : lamOf (iblk m c 3 t) (ix2 0 0) = ((lambda l3 l4 l5 l6 : ℝ) : EReal) := by
  have r0 : ∀ x : Fin 128, iblk m c 3 t (ix2 0 x) = (if h : (x : ℕ) < 64 then ((l3 ⟨x, h⟩ : ℝ) : EReal) else 0) := by
    intro x; rw [lams_at, V_lams, h3]; simp; rfl
  have r1 : ∀ x : Fin 128, iblk m c 3 t (ix2 1 x) = (if h : (x : ℕ) < 64 then ((l4 ⟨x, h⟩ : ℝ) : EReal) else 0) := by
    intro x; rw [lams_at, V_lams, h4]; simp; rfl
  have r2 : ∀ x : Fin 128, iblk m c 3 t (ix2 2 x) = (if h : (x : ℕ) < 64 then ((l5 ⟨x, h⟩ : ℝ) : EReal) else 0) := by
    intro x; rw [lams_at, V_lams, h5]; simp; rfl
  have r3 : ∀ x : Fin 128, iblk m c 3 t (ix2 3 x) = (if h : (x : ℕ) < 64 then ((l6 ⟨x, h⟩ : ℝ) : EReal) else 0) := by
    intro x; rw [lams_at, V_lams, h6]; simp; rfl
  rw [lamOf_at]
  simp only [r0, r1, r2, r3, lanes_sum, Ideal.exp_coe]
  unfold lambda
  simp only [EReal.coe_add, EReal.coe_sub]

/-- An array of heads whose entries are real. -/
theorem exists_heads (x : Vec Ideal S8x4x4096x128 .bf16) (h : ∀ i, x i = ((EReal.toReal (x i) : ℝ) : EReal)) : ∃ q, x = heads q := by
  refine ⟨fun b h p d => EReal.toReal (x (ix4 b h p d)), funext fun i => ?_⟩
  have e : (ix4 (i 0) (i 1) (i 2) (i 3) : S8x4x4096x128.Idx) = i := by blk_ext
  show x i = ((EReal.toReal (x (ix4 (i 0) (i 1) (i 2) (i 3))) : ℝ) : EReal)
  rw [e]
  exact h i

/-- An array of transposed heads whose entries are real. -/
theorem exists_headsT (x : Vec Ideal S8x4x128x4096 .bf16) (h : ∀ i, x i = ((EReal.toReal (x i) : ℝ) : EReal)) : ∃ v, x = headsT v := by
  refine ⟨fun b h p d => EReal.toReal (x (ix4 b h p d)), funext fun i => ?_⟩
  have e : (ix4 (i 0) (i 1) (i 2) (i 3) : S8x4x128x4096.Idx) = i := by blk_ext
  show x i = ((EReal.toReal (x (ix4 (i 0) (i 1) (i 2) (i 3))) : ℝ) : EReal)
  rw [e]
  exact h i

/-- A vector of lambda whose entries are real. -/
theorem exists_pair (x : Vec Ideal S1x64 .f32) (h : ∀ i, x i = ((EReal.toReal (x i) : ℝ) : EReal)) : ∃ a, x = pair a := by
  refine ⟨fun l => EReal.toReal (x (ix2 0 l)), funext fun i => ?_⟩
  have e : (ix2 0 (i 1) : S1x64.Idx) = i := by blk_ext
  show x i = ((EReal.toReal (x (ix2 0 (i 1))) : ℝ) : EReal)
  rw [e]
  exact h i

variable (q k : Fin 8 → Fin 4 → Fin 4096 → Fin 128 → ℝ) (v : Fin 8 → Fin 4 → Fin 128 → Fin 4096 → ℝ) (l3 l4 l5 l6 : Fin 64 → ℝ)
    (h0 : m ((c : Thread nD τ).loc main_arg0) = heads q) (h1 : m ((c : Thread nD τ).loc main_arg1) = heads k)
    (h2 : m ((c : Thread nD τ).loc main_arg2) = headsT v) (h3 : m ((c : Thread nD τ).loc main_arg3) = pair l3)
    (h4 : m ((c : Thread nD τ).loc main_arg4) = pair l4) (h5 : m ((c : Thread nD τ).loc main_arg5) = pair l5)
    (h6 : m ((c : Thread nD τ).loc main_arg6) = pair l6)

include h0 h1 h2 h3 h4 h5 h6

/-- What a grid point leaves at an entry of its block: the reference's result at that entry of its batch and head. -/
theorem block_value (t : Fin cfg0.N) (y : S1x1x4096x128.Idx) :
    blockOut (iblk m c 0 t) (iblk m c 1 t) (iblk m c 2 t) (iblk m c 3 t) (iblk m c 4 t) y
      = Cert.ReferenceIdeal.Read.val_main_v74 (F := Ideal) (heads q) (heads k) (headsT v) (pair l3) (pair l4) (pair l5) (pair l6)
        (m ((c : Thread nD τ).loc main_arg7)) (ix4 (batch t) (head t) (y 2) (y 3)) := by
  have e := tileOut_real (q (batch t) (head t)) (k (batch t) (head t)) (v (batch t) (head t)) (iblk m c 0 t) (iblk m c 1 t) (iblk m c 2 t)
    (fun p x => by rw [queries_at, h0]; rfl) (fun p x => by rw [keys_at, h1]; rfl) (fun d p => by rw [values_at, h2]; rfl)
    (iblk m c 3 t) (iblk m c 4 t) _ (lam_block m c t l3 l4 l5 l6 h3 h4 h5 h6) ((y 2 : ℕ) / 512) (by have : (y 2 : ℕ) < 4096 := (y 2).isLt; omega)
    ⟨(y 2 : ℕ) % 512, Nat.mod_lt _ (by decide)⟩ (y 3) (y 2) (by show (y 2 : ℕ) = (y 2 : ℕ) / 512 * 512 + (y 2 : ℕ) % 512; omega)
  have g : iblk m c 4 t (ix2 (y 3 : Fin 128) 0) = _ := (gains_at m c t (y 3)).trans (V_gains m c (y 3))
  refine Eq.trans ?_ (Cert.ReferenceIdeal.Val.result_at q k v l3 l4 l5 l6 _ (batch t) (head t) (y 2) (y 3)).symm
  exact e.trans (congrArg (fun g => normed _ g _) g)

/-- The kernel's result array is the reference's result of the same arguments. -/
theorem final : (dats m 0 c).arrAt 5 cfg0.N
    = Cert.ReferenceIdeal.Read.val_main_v74 (F := Ideal) (heads q) (heads k) (headsT v) (pair l3) (pair l4) (pair l5) (pair l6)
      (m ((c : Thread nD τ).loc main_arg7)) := by
  refine (dats m 0 c).arrAt_eq_of_covers 5 _ (by decide +kernel) fun t hf y => ?_
  have ey : ((cfg0.win 5).blk t).view.emb y = (ix4 (batch t) (head t) (y 2) (y 3) : S8x4x4096x128.Idx) := by
    blk_ext [idx t, batch, head]
  blk_simp
  rw [after0_5, outsAt_eq, ey]
  exact block_value m c q k v l3 l4 l5 l6 h0 h1 h2 h3 h4 h5 h6 t y

end Cert.KernelIdeal.Val
-- ==== Proof.FoxTile.lean ====
/- What one grid point of the forgetting attention leaves in its block, written as one recursion over the key blocks. -/
module

public import proofs.«01_k».proof.Proof.Gen.FoxIdeal.Value
public import Idealize.ShloMosaic.Lib.Pipeline.ValueKit
public import Idealize.ShloMosaic.Lib.Pipeline.ReadBack
public import proofs.«01_k».proof.Proof.Tile

@[expose] public section

set_option maxRecDepth 16384

noncomputable section

namespace Cert.FoxIdeal.Val

open Cert.FoxIdeal Cert.FoxIdeal.Gen Idealize.ShloMosaic Idealize.ShloMosaic.TcCoe Idealize.SL.Sem
open Idealize.ShloMosaic.Pipeline (Dat)

/-- The rows `512 j …` of a block of 4096 rows lie inside it. -/
theorem rows_inb (j : ℕ) : ∀ a : Fin 4, (![0, 0, j % 8 * 512, 0] : Fin 4 → ℕ) a + (![1, 1, 512, 128] : Fin 4 → ℕ) a ≤ (![1, 1, 4096, 128] : Fin 4 → ℕ) a := by
  intro a; fin_cases a <;> simp; omega

/-- The columns `512 j …` of a block of 4096 columns lie inside it. -/
theorem cols_inb (j : ℕ) : ∀ a : Fin 4, (![0, 0, 0, j % 8 * 512] : Fin 4 → ℕ) a + (![1, 1, 128, 512] : Fin 4 → ℕ) a ≤ (![1, 1, 128, 4096] : Fin 4 → ℕ) a := by
  intro a; fin_cases a <;> simp; omega

/-- Rows `512 j … 512 j + 511` of the queries or keys. -/
def rows (X : Vec Ideal S1x1x4096x128 .bf16) (j : ℕ) : Vec Ideal S1x1x512x128 .bf16 :=
  View.ld X (Rect.unit (s := S1x1x4096x128) ![0, 0, j % 8 * 512, 0] ![1, 1, 512, 128] (rows_inb j))

/-- Columns `512 j … 512 j + 511` of the transposed values. -/
def cols (X : Vec Ideal S1x1x128x4096 .bf16) (j : ℕ) : Vec Ideal S1x1x128x512 .bf16 :=
  View.ld X (Rect.unit (s := S1x1x128x4096) ![0, 0, 0, j % 8 * 512] ![1, 1, 128, 512] (cols_inb j))

/-- The scores of key block `j` against the queries of tile `i`, the keys' own logarithms added. -/
def score (Q K A : Vec Ideal S1x1x4096x128 .bf16) (i j : ℕ) : FVec Ideal S512x512 .f32 :=
  k0_pay19 (k0_pay15 k0_pay3 (rows Q i)) (rows K j) (rows A j)

/-- The same on the diagonal, the later keys masked. -/
def scoreDiag (Q K A : Vec Ideal S1x1x4096x128 .bf16) (i : ℕ) : FVec Ideal S512x512 .f32 :=
  k0_pay24 (score Q K A i i)

/-- The new running maximum. -/
def nextMax (s : FVec Ideal S512x512 .f32) (M : Vec Ideal S1x1x512 .f32) : FVec Ideal S1x1x512 .f32 :=
  k0_pay23 s M

/-- The new accumulator. -/
def nextAcc (s : FVec Ideal S512x512 .f32) (v : Vec Ideal S1x1x128x512 .bf16) (M : Vec Ideal S1x1x512 .f32) (A : Vec Ideal S1x144x512 .f32) :
    FVec Ideal S1x144x512 .f32 :=
  k0_pay22 s v M A

/-- The running maximum after the first `j` key blocks. -/
def runMax (Q K A : Vec Ideal S1x1x4096x128 .bf16) (i : ℕ) : ℕ → FVec Ideal S1x1x512 .f32
  | 0 => k0_pay16
  | j + 1 => nextMax (score Q K A i j) (runMax Q K A i j)

/-- The accumulator after the first `j` key blocks. -/
def runAcc (Q K A : Vec Ideal S1x1x4096x128 .bf16) (W : Vec Ideal S1x1x128x4096 .bf16) (i : ℕ) : ℕ → FVec Ideal S1x144x512 .f32
  | 0 => k0_pay17
  | j + 1 => nextAcc (score Q K A i j) (cols W j) (runMax Q K A i j) (runAcc Q K A W i j)

/-- The accumulator of tile `i` after its last block, the one on the diagonal. -/
def lastAcc (Q K A : Vec Ideal S1x1x4096x128 .bf16) (W : Vec Ideal S1x1x128x4096 .bf16) (i : ℕ) : FVec Ideal S1x144x512 .f32 :=
  nextAcc (scoreDiag Q K A i) (cols W i) (runMax Q K A i i) (runAcc Q K A W i i)

/-- The rows of the accumulator that hold the weighted sums of the values. -/
def sums (A : Vec Ideal S1x144x512 .f32) : Vec Ideal S1x128x512 .f32 :=
  View.ld A (Rect.unit (s := S1x144x512) ![0, 0, 0] ![1, 128, 512] (by decide))

/-- The row of the accumulator that holds the sum of the weights. -/
def total (A : Vec Ideal S1x144x512 .f32) : Vec Ideal S1x1x512 .f32 :=
  View.ld A (Rect.unit (s := S1x144x512) ![0, 128, 0] ![1, 1, 512] (by decide))

/-- The tile of the result, of an accumulator. -/
def finish (A : Vec Ideal S1x144x512 .f32) : FVec Ideal S1x1x512x128 .bf16 :=
  k0_pay2 (sums A) (total A)

/-- The tile of the result. -/
def tileOut (Q K A : Vec Ideal S1x1x4096x128 .bf16) (W : Vec Ideal S1x1x128x4096 .bf16)
    (i : ℕ) : FVec Ideal S1x1x512x128 .bf16 :=
  finish (lastAcc Q K A W i)

/-- The rows of the sums, loaded right after a store of the whole slice. -/
theorem readCov_sums {sig : RefSig} {κ : Kind} {sp : Space} (v : View sig κ sp S8x144x512 .f32) (i : ℕ)
    (inb : ∀ a : Fin S8x144x512.rank, (![i, 0, 0] : Fin 3 → ℕ) a + (![1, 144, 512] : Fin 3 → ℕ) a ≤ S8x144x512.size a)
    (inb' : ∀ a : Fin S8x144x512.rank, (![i, 0, 0] : Fin 3 → ℕ) a + (![1, 128, 512] : Fin 3 → ℕ) a ≤ S8x144x512.size a)
    (w : S1x144x512.Idx → Elt Ideal .f32) (L : List (View.Piece (Elt Ideal) S8x144x512 .f32)) :
    v.readCov (⟨Rect.unit (s := S8x144x512) ![i, 0, 0] ![1, 144, 512] inb, w⟩ :: L)
      (Rect.unit (s := S8x144x512) ![i, 0, 0] ![1, 128, 512] inb').toLoadRect = sums w := by
  refine Cert.KernelIdeal.Val.readCov_within (Val := Elt Ideal) (s := S8x144x512) (e := .f32) v (Rect.unit (s := S8x144x512) ![i, 0, 0] ![1, 144, 512] inb) w L
    (Rect.unit (s := S8x144x512) ![i, 0, 0] ![1, 128, 512] inb').toLoadRect
    (Rect.unit (s := S1x144x512) ![0, 0, 0] ![1, 128, 512] (by decide)).idx fun x => ?_
  funext a
  apply Fin.ext
  revert a
  refine Fin.forall_fin_succ.mpr ⟨?_, Fin.forall_fin_succ.mpr ⟨?_, Fin.forall_fin_succ.mpr ⟨?_, fun a => a.elim0⟩⟩⟩ <;> simp [LoadRect.idx]

/-- The row of the total, loaded right after a store of the whole slice. -/
theorem readCov_total {sig : RefSig} {κ : Kind} {sp : Space} (v : View sig κ sp S8x144x512 .f32) (i : ℕ)
    (inb : ∀ a : Fin S8x144x512.rank, (![i, 0, 0] : Fin 3 → ℕ) a + (![1, 144, 512] : Fin 3 → ℕ) a ≤ S8x144x512.size a)
    (inb' : ∀ a : Fin S8x144x512.rank, (![i, 128, 0] : Fin 3 → ℕ) a + (![1, 1, 512] : Fin 3 → ℕ) a ≤ S8x144x512.size a)
    (w : S1x144x512.Idx → Elt Ideal .f32) (L : List (View.Piece (Elt Ideal) S8x144x512 .f32)) :
    v.readCov (⟨Rect.unit (s := S8x144x512) ![i, 0, 0] ![1, 144, 512] inb, w⟩ :: L)
      (Rect.unit (s := S8x144x512) ![i, 128, 0] ![1, 1, 512] inb').toLoadRect = total w := by
  refine Cert.KernelIdeal.Val.readCov_within (Val := Elt Ideal) (s := S8x144x512) (e := .f32) v (Rect.unit (s := S8x144x512) ![i, 0, 0] ![1, 144, 512] inb) w L
    (Rect.unit (s := S8x144x512) ![i, 128, 0] ![1, 1, 512] inb').toLoadRect
    (Rect.unit (s := S1x144x512) ![0, 128, 0] ![1, 1, 512] (by decide)).idx fun x => ?_
  funext a
  apply Fin.ext
  revert a
  refine Fin.forall_fin_succ.mpr ⟨?_, Fin.forall_fin_succ.mpr ⟨?_, Fin.forall_fin_succ.mpr ⟨?_, fun a => a.elim0⟩⟩⟩ <;> simp [LoadRect.idx]

/-- The block a grid point leaves, read at an index: its tile is the index's row over 512. -/
def blockOut (Q K A : Vec Ideal S1x1x4096x128 .bf16) (W : Vec Ideal S1x1x128x4096 .bf16)
    (y : S1x1x4096x128.Idx) : Elt Ideal .bf16 :=
  tileOut Q K A W ((y 2 : ℕ) / 512) (ix4 0 0 ⟨(y 2 : ℕ) % 512, Nat.mod_lt _ (by decide)⟩ (y 3))

/-- The block read at an entry of a tile. -/
theorem blockOut_tile (Q K A : Vec Ideal S1x1x4096x128 .bf16) (W : Vec Ideal S1x1x128x4096 .bf16)
    (i : ℕ) (y : S1x1x4096x128.Idx) (x : S1x1x512x128.Idx) (h2 : (y 2 : ℕ) = i * 512 + (x 2 : ℕ)) (h3 : (y 3 : ℕ) = (x 3 : ℕ)) :
    blockOut Q K A W y = tileOut Q K A W i x := by
  have hx : (x 2 : ℕ) < 512 := (x 2).isLt
  have e1 : (y 2 : ℕ) / 512 = i := by omega
  have e2 : (ix4 0 0 ⟨(y 2 : ℕ) % 512, Nat.mod_lt _ (by decide)⟩ (y 3) : S1x1x512x128.Idx) = x := by
    blk_ext
  unfold blockOut
  rw [e1, e2]

end Cert.FoxIdeal.Val
-- ==== Proof.FoxTileVal.lean ====
/- The tile of the forgetting attention at an index: the block by block softmax. -/
module

public import proofs.«01_k».proof.Proof.FoxTile
public import proofs.«01_k».proof.Proof.Softmax
public import Idealize.ShloMosaic.Lib.WordCmp

@[expose] public section

set_option maxRecDepth 16384

noncomputable section

namespace Cert.FoxIdeal.Val

open Cert.Softmax
open Cert.FoxIdeal Cert.FoxIdeal.Gen Idealize.ShloMosaic Idealize.ShloMosaic.TcCoe Idealize.SL.Sem

theorem init_max (c : Fin 512) : (k0_pay16 : FVec Ideal S1x1x512 .f32) (ix3 0 0 c) = (⊥ : EReal) := by
  pointwise [k0_pay16]
  exact ofBits_neg_inf

theorem init_acc (d : Fin 144) (c : Fin 512) : (k0_pay17 : FVec Ideal S1x144x512 .f32) (ix3 0 d c) = (0 : EReal) := by
  pointwise [k0_pay17]

/-- The new maximum of a column. -/
theorem nextMax_at (s : FVec Ideal S512x512 .f32) (M : Vec Ideal S1x1x512 .f32) (c : Fin 512) :
    nextMax s M (ix3 0 0 c) = max (M (ix3 0 0 c)) (Finset.univ.fold max (⊥ : EReal) fun r : Fin 512 => s (ix2 r c)) := by
  pointwise [nextMax, k0_pay23, k0_pay21, k0_pay20]
  rw [ofBits_neg_inf]

/-- The value a row of the extended values has: the value, then one. -/
def ext (v : Vec Ideal S1x1x128x512 .bf16) (d : Fin 144) (r : Fin 512) : EReal := if h : (d : ℕ) < 128 then v (ix4 0 0 ⟨d, h⟩ r) else 1

/-- The new accumulator at a row and a column. -/
theorem nextAcc_at (s : FVec Ideal S512x512 .f32) (v : Vec Ideal S1x1x128x512 .bf16) (M : Vec Ideal S1x1x512 .f32) (A : Vec Ideal S1x144x512 .f32)
    (d : Fin 144) (c : Fin 512) :
    nextAcc s v M A (ix3 0 d c) = Ideal.exp2 (M (ix3 0 0 c) - nextMax s M (ix3 0 0 c)) * A (ix3 0 d c)
      + ∑ r, ext v d r * Ideal.exp2 (s (ix2 r c) - nextMax s M (ix3 0 0 c)) := by
  rw [nextMax_at]
  pointwise [nextAcc, k0_pay22, k0_pay21, k0_pay20]
  rw [ofBits_neg_inf]
  rfl

/-- The choice of the first three lanes. -/
theorem select_three (x : Fin 128) (y z : EReal) : Scalar.select (IntOp.cmpi .slt (BitVec.ofNat 32 x) 3#32) y z = if (x : ℕ) < 3 then y else z := by
  rw [WordCmp.cmpi_slt_ofNat (by omega) (by omega)]
  by_cases h : (x : ℕ) < 3 <;> simp [h, Scalar.select]

/-- The choice of the diagonal's mask. -/
theorem select_diag (r c : Fin 512) (y z : EReal) :
    Scalar.select (IntOp.cmpi .sle (BitVec.ofNat 32 r) (BitVec.ofNat 32 c)) y z = if (r : ℕ) ≤ c then y else z := by
  rw [WordCmp.cmpi_sle_ofNat (by omega) (by omega)]
  by_cases h : (r : ℕ) ≤ c <;> simp [h, Scalar.select]

/-- The scale of the queries. -/
abbrev fscale : EReal := (Named.named κ "fscale" 1040356334#32 : Ideal .f32)

theorem fscale_eq : fscale = (((Real.sqrt 128 * Real.log 2)⁻¹ : ℝ) : EReal) := IdealRules.named_const.ideal_named_scalar _ _ _ _ rfl

/-- A score: the product of the query and the key, and the sum of the key's three parts. -/
def dot (Q K A : Vec Ideal S1x1x4096x128 .bf16) (i j : ℕ) (r c : Fin 512) : EReal :=
  (∑ x : Fin 128, K (ix4 0 0 (key j r) x) * (Q (ix4 0 0 (key i c) x) * fscale))
    + ∑ x : Fin 128, if (x : ℕ) < 3 then A (ix4 0 0 (key j r) x) else 0

theorem score_at (Q K A : Vec Ideal S1x1x4096x128 .bf16) (i j : ℕ) (r c : Fin 512) : score Q K A i j (ix2 r c) = dot Q K A i j r c := by
  pointwise [score, k0_pay19, k0_pay15, k0_pay3, rows]
  simp only [select_three]
  rfl

theorem scoreDiag_at (Q K A : Vec Ideal S1x1x4096x128 .bf16) (i : ℕ) (r c : Fin 512) :
    scoreDiag Q K A i (ix2 r c) = if (r : ℕ) ≤ c then dot Q K A i i r c else ⊥ := by
  rw [← score_at]
  unfold scoreDiag
  generalize score Q K A i i = s
  pointwise [k0_pay24]
  rw [select_diag, ofBits_neg_inf]

theorem cols_at (X : Vec Ideal S1x1x128x4096 .bf16) (j : ℕ) (d : Fin 128) (r : Fin 512) : cols X j (ix4 0 0 d r) = X (ix4 0 0 d (key j r)) := by
  pointwise [cols]
  rfl

/-- A lane's quotient of a column. -/
def quot (A : Vec Ideal S1x144x512 .f32) (d : Fin 128) (c : Fin 512) : EReal := Ideal.div (A (ix3 0 ⟨d, by omega⟩ c)) (A (ix3 0 128 c))

/-- The finished tile at an index. -/
theorem finish_at (A : Vec Ideal S1x144x512 .f32) (r : Fin 512) (d : Fin 128) : finish A (ix4 0 0 r d) = quot A d r := by
  pointwise [finish, sums, total, k0_pay2]
  rfl

section Real

variable (q k a : Fin 4096 → Fin 128 → ℝ) (v : Fin 128 → Fin 4096 → ℝ) (Q K A : Vec Ideal S1x1x4096x128 .bf16) (W : Vec Ideal S1x1x128x4096 .bf16)
  (hQ : ∀ p x, Q (ix4 0 0 p x) = ((q p x : ℝ) : EReal)) (hK : ∀ p x, K (ix4 0 0 p x) = ((k p x : ℝ) : EReal))
  (hA : ∀ p x, A (ix4 0 0 p x) = ((a p x : ℝ) : EReal)) (hW : ∀ d p, W (ix4 0 0 d p) = ((v d p : ℝ) : EReal))

include hQ hK hA in
/-- A score is the score in the base e, to base two. -/
theorem dot_real (i j : ℕ) (r c : Fin 512) :
    dot Q K A i j r c = ((Softmax.foxScore (q (key i c)) k a (key j r) / Real.log 2 : ℝ) : EReal) := by
  have e : ∀ x : Fin 128, K (ix4 0 0 (key j r) x) * (Q (ix4 0 0 (key i c) x) * fscale)
      = ((k (key j r) x * (q (key i c) x * (Real.sqrt 128 * Real.log 2)⁻¹) : ℝ) : EReal) := by
    intro x
    rw [EReal.coe_mul, hK, hQ, fscale_eq, EReal.coe_mul]
  have f : ∀ x : Fin 128, (if (x : ℕ) < 3 then A (ix4 0 0 (key j r) x) else 0) = (((if (x : ℕ) < 3 then a (key j r) x else 0) : ℝ) : EReal) := by
    intro x
    rw [hA]
    split <;> rfl
  unfold dot
  simp only [e, f, coe_sum, ← EReal.coe_add]
  congr 1
  exact foxScore_base_two _ _ _ _

/-- The masked scores of a column. -/
abbrev scores (i : ℕ) (c : Fin 512) (j : ℕ) (r : Fin 512) : EReal :=
  masked ((key j r : ℕ) ≤ i * 512 + (c : ℕ)) (Softmax.foxScore (q (key i c)) k a (key j r) / Real.log 2)

include hQ hK hA in
/-- The scores before the diagonal. -/
theorem score_real (i j : ℕ) (hi : i < 8) (hj : j < i) (r : Fin 512) (c : Fin 512) : score Q K A i j (ix2 r c) = scores q k a i c j r := by
  rw [score_at, dot_real q k a Q K A hQ hK hA]
  have h : (key j r : ℕ) ≤ i * 512 + (c : ℕ) := by simp only [key]; omega
  rw [scores, masked, if_pos h]

include hQ hK hA in
/-- The scores on the diagonal. -/
theorem scoreDiag_real (i : ℕ) (hi : i < 8) (r : Fin 512) (c : Fin 512) : scoreDiag Q K A i (ix2 r c) = scores q k a i c i r := by
  rw [scoreDiag_at, dot_real q k a Q K A hQ hK hA, scores, masked]
  have e : ((key i r : ℕ) ≤ i * 512 + (c : ℕ)) = ((r : ℕ) ≤ (c : ℕ)) := by
    simp only [key, eq_iff_iff]; omega
  simp only [e]

include hQ hK hA in
/-- The running maximum before the diagonal. -/
theorem runMax_real (i : ℕ) (hi : i < 8) (c : Fin 512) (j : ℕ) (hj : j ≤ i) : runMax Q K A i j (ix3 0 0 c) = Softmax.runMax (scores q k a i c) j := by
  induction j with
  | zero => exact init_max c
  | succ j ih =>
    rw [runMax, nextMax_at, ih (by omega), Softmax.runMax]
    simp only [score_real q k a Q K A hQ hK hA i j hi (by omega)]

include hW in
/-- The extended values of a block. -/
theorem ext_real (d : Fin 144) (j : ℕ) (r : Fin 512) :
    ext (cols W j) d r = if h : (d : ℕ) < 128 then ((v ⟨d, h⟩ (key j r) : ℝ) : EReal) else 1 := by
  unfold ext
  split
  · rw [cols_at, hW]
  · rfl

include hQ hK hA hW in
/-- The accumulator before the diagonal. -/
theorem runAcc_real (i : ℕ) (hi : i < 8) (d : Fin 144) (c : Fin 512) (j : ℕ) (hj : j ≤ i) :
    runAcc Q K A W i j (ix3 0 d c)
      = Softmax.runAcc (scores q k a i c) (fun j r => if h : (d : ℕ) < 128 then ((v ⟨d, h⟩ (key j r) : ℝ) : EReal) else 1) j := by
  induction j with
  | zero => exact init_acc d c
  | succ j ih =>
    have e : nextMax (score Q K A i j) (runMax Q K A i j) (ix3 0 0 c) = Softmax.runMax (scores q k a i c) (j + 1) :=
      runMax_real q k a Q K A hQ hK hA i hi c (j + 1) hj
    rw [runAcc, nextAcc_at, ih (by omega), e, runMax_real q k a Q K A hQ hK hA i hi c j (by omega), Softmax.runAcc]
    simp only [score_real q k a Q K A hQ hK hA i j hi (by omega), ext_real v W hW]

include hQ hK hA hW in
/-- The accumulator after the diagonal. -/
theorem lastAcc_real (i : ℕ) (hi : i < 8) (d : Fin 144) (c : Fin 512) :
    lastAcc Q K A W i (ix3 0 d c)
      = Softmax.runAcc (scores q k a i c) (fun j r => if h : (d : ℕ) < 128 then ((v ⟨d, h⟩ (key j r) : ℝ) : EReal) else 1) (i + 1) := by
  have e : nextMax (scoreDiag Q K A i) (runMax Q K A i i) (ix3 0 0 c) = Softmax.runMax (scores q k a i c) (i + 1) := by
    rw [nextMax_at, runMax_real q k a Q K A hQ hK hA i hi c i le_rfl, Softmax.runMax]
    simp only [scoreDiag_real q k a Q K A hQ hK hA i hi]
  rw [lastAcc, nextAcc_at, e, runMax_real q k a Q K A hQ hK hA i hi c i le_rfl, runAcc_real q k a v Q K A W hQ hK hA hW i hi d c i le_rfl, Softmax.runAcc]
  simp only [scoreDiag_real q k a Q K A hQ hK hA i hi, ext_real v W hW]

include hQ hK hA hW in
/-- A quotient is the component's weighted mean of the values. -/
theorem quot_real (i : ℕ) (hi : i < 8) (d : Fin 128) (c : Fin 512) :
    quot (lastAcc Q K A W i) d c = ((mean (Softmax.foxScore (q (key i c)) k a) (v d) (i * 512 + (c : ℕ)) : ℝ) : EReal) := by
  unfold quot
  rw [lastAcc_real q k a v Q K A W hQ hK hA hW i hi, lastAcc_real q k a v Q K A W hQ hK hA hW i hi]
  have h1 : ((128 : Fin 144) : ℕ) = 128 := rfl
  simp only [Fin.is_lt, ↓reduceDIte, h1, lt_irrefl]
  exact run_attn (Softmax.foxScore (q (key i c)) k a) (v d) i hi (c : ℕ) c.isLt

include hQ hK hA hW in
/-- The tile at an index. -/
theorem tileOut_real (i : ℕ) (hi : i < 8) (r : Fin 512) (d : Fin 128) (p : Fin 4096) (hp : (p : ℕ) = i * 512 + r) :
    tileOut Q K A W i (ix4 0 0 r d) = ((mean (Softmax.foxScore (q p) k a) (v d) p : ℝ) : EReal) := by
  have e : key i r = p := by apply Fin.ext; simp only [key]; omega
  rw [tileOut, finish_at, quot_real q k a v Q K A W hQ hK hA hW i hi, e, hp]

end Real

end Cert.FoxIdeal.Val
-- ==== Proof.FoxRefVal.lean ====
/- The reference of the forgetting attention at an index. -/
module

public import proofs.«01_k».proof.Proof.Gen.FoxRefIdeal.Read
public import Idealize.ShloMosaic.Lib.Pipeline.ValueKit
public import Idealize.ShloMosaic.Lib.WordCmp
public import proofs.«01_k».proof.Proof.Softmax
public import proofs.«01_k».proof.Proof.RefVal

@[expose] public section

set_option maxRecDepth 16384

noncomputable section

namespace Cert.FoxRefIdeal.Val

open Cert.Softmax
open Cert.ReferenceIdeal.Val (heads headsT select_sge)
open Cert.FoxRefIdeal Cert.FoxRefIdeal.Gen Cert.FoxRefIdeal.Read Idealize.ShloMosaic Idealize.ShloMosaic.TcCoe Idealize.SL.Sem

/-- The pattern of 128. -/
theorem ofBits_sqrt : Ideal.sqrt (Ideal.ofBits .f32 0x43000000#32) = ((Real.sqrt 128 : ℝ) : EReal) := by
  have e : Ideal.ofBits .f32 0x43000000#32 = ((128 : ℝ) : EReal) := by simp [Ideal.ofBits, Ideal.ieee, -EReal.coe_mul]; norm_num
  rw [e, Ideal.sqrt_coe, if_neg (by norm_num)]

/-- The pattern of two. -/
theorem ofBits_log : Ideal.log (Ideal.ofBits .f32 0x40000000#32) = ((Real.log 2 : ℝ) : EReal) := by
  have e : Ideal.ofBits .f32 0x40000000#32 = ((2 : ℝ) : EReal) := by simp [Ideal.ofBits, Ideal.ieee, -EReal.coe_mul]; norm_num
  rw [e, Ideal.log_coe, if_neg (by norm_num)]

theorem heads_at (q : Fin 8 → Fin 4 → Fin 4096 → Fin 128 → ℝ) (b : Fin 8) (h : Fin 4) (p : Fin 4096) (d : Fin 128) :
    heads q (ix4 b h p d) = ((q b h p d : ℝ) : EReal) := rfl

variable (q k a : Fin 8 → Fin 4 → Fin 4096 → Fin 128 → ℝ)

/-- The score of a row with the row's own logarithm added. -/
abbrev shifted (b : Fin 8) (h : Fin 4) (p : Fin 4096) (κ : Fin 4096) : ℝ :=
  Softmax.foxScore (q b h p) (k b h) (a b h) κ + -(a b h p 0 + a b h p 1 + a b h p 2) * Real.log 2

/-- The cumulative logarithm of a position. -/
theorem cum_at (b : Fin 8) (h : Fin 4) (p : Fin 4096) :
    val_main_v21 (F := Ideal) (heads a) (ix3 b h p) = ((-(a b h p 0 + a b h p 1 + a b h p 2) * Real.log 2 : ℝ) : EReal) := by
  pointwise [val_main_v21, val_main_v20, val_main_v19, val_main_v18, val_main_v17, val_main_v16, val_main_v15, val_main_v14, val_main_v13, val_main_v12,
    val_main_v11, val_main_v10, val_main_v9, val_main_v8, val_main_v7, val_main_cst_0]
  rw [ofBits_log]
  simp only [heads_at, ← EReal.coe_mul, ← EReal.coe_add, ← EReal.coe_neg]

/-- The scaled product of a query and a key. -/
theorem product_at (b : Fin 8) (h : Fin 4) (p κ : Fin 4096) :
    val_main_v28 (F := Ideal) (heads q) (heads k) (ix4 b h p κ) = ((∑ x, q b h p x / Real.sqrt 128 * k b h κ x : ℝ) : EReal) := by
  pointwise [val_main_v28, val_main_v6, val_main_v5, val_main_v4, val_main_v1, val_main_v0, val_main_cst]
  rw [ofBits_sqrt]
  have h : Real.sqrt 128 ≠ 0 := (Real.sqrt_pos.mpr (by norm_num)).ne'
  simp only [heads_at, div_real _ _ h, ← EReal.coe_mul, coe_sum]

/-- The masked score. -/
theorem score_at (b : Fin 8) (h : Fin 4) (p κ : Fin 4096) :
    val_main_v35 (F := Ideal) (heads q) (heads k) (heads a) (ix4 b h p κ) = masked ((κ : ℕ) ≤ p) (shifted q k a b h p κ) := by
  rw [val_main_v35_apply, val_main_v34_apply, val_main_v33_apply, val_main_v32_apply, val_main_v31_apply, val_main_v30_apply, val_main_v29_apply]
  have e1 : idx_main_v29 (idx_main_v30 (ix4 b h p κ)) = ix3 b h p := by blk_ext
  have e2 : idx_main_v32 (idx_main_v33 (ix4 b h p κ)) = ix3 b h κ := by blk_ext
  rw [e1, e2, cum_at, cum_at, product_at]
  pointwise [val_main_call0_v2, val_main_call0_v1, val_main_call0_v0, val_main_cst_1, val_main_v27, val_main_v26, val_main_v25, val_main_v24, val_main_v23, val_main_v22]
  have e : id (constant (F := Ideal) S_ FTy.f32 4286578688#32) ix0 = (⊥ : EReal) := ofBits_neg_inf
  rw [select_sge, e, ← EReal.coe_add, ← EReal.coe_sub, masked]
  congr 2
  unfold shifted Softmax.foxScore
  ring

/-- The largest score of a row. -/
theorem row_max (x0 x1 x3 : Vec Ideal S8x4x4096x128 .bf16) (b : Fin 8) (h : Fin 4) (p : Fin 4096) :
    val_main_v36 (F := Ideal) x0 x1 x3 (ix3 b h p)
      = Finset.univ.fold max (Ideal.ofBits .f32 0xFF800000#32) fun κ : Fin 4096 => val_main_v35 (F := Ideal) x0 x1 x3 (ix4 b h p κ) := by
  unfold val_main_v36
  generalize val_main_v35 (F := Ideal) x0 x1 x3 = S
  pointwise [val_main_cst_2]

/-- The probability of a key. -/
theorem prob_at (b : Fin 8) (h : Fin 4) (p κ : Fin 4096) :
    val_main_v46 (F := Ideal) (heads q) (heads k) (heads a) (ix4 b h p κ) = ((prob (shifted q k a b h p) p κ : ℝ) : EReal) := by
  obtain ⟨μ, hμ⟩ := row_max_real (shifted q k a b h p) p
  have hw : ∀ κ', val_main_v42 (F := Ideal) (heads q) (heads k) (heads a) (ix4 b h p κ')
      = Ideal.exp (masked ((κ' : ℕ) ≤ p) (shifted q k a b h p κ') - (μ : EReal)) := by
    intro κ'
    rw [val_main_v42_apply, val_main_v41_apply, val_main_v40_apply, val_main_v39_apply, val_main_v38_apply, val_main_v37_apply, val_main_cst_3_apply]
    have e : idx_main_v39 (idx_main_v40 (ix4 b h p κ')) = ix3 b h p := by blk_ext
    rw [e, row_max, score_at]
    simp only [score_at, Ideal.ofBits_def, ofBits_neg_inf]
    rw [← hμ]
    rfl
  rw [val_main_v46_apply, val_main_v45_apply, val_main_v44_apply, val_main_v43_apply]
  have e : ∀ κ', idx_main_v43 (idx_main_v44 (idx_main_v45 (ix4 b h p κ))) κ' = ix4 b h p κ' := by intro κ'; blk_ext
  simp only [e, hw]
  rw [← softmax_at _ _ μ]
  have e0 : val_main_cst_4 (F := Ideal) (Shape.Idx.first h_S_) = (0 : EReal) := Ideal.ofBits_zero_f32
  rw [e0, zero_add]
  rfl

variable (v : Fin 8 → Fin 4 → Fin 128 → Fin 4096 → ℝ)

/-- The reference's result at an index. -/
theorem result_at (b : Fin 8) (h : Fin 4) (p : Fin 4096) (d : Fin 128) :
    val_main_v48 (F := Ideal) (heads q) (heads k) (headsT v) (heads a) (ix4 b h p d)
      = ((mean (Softmax.foxScore (q b h p) (k b h) (a b h)) (v b h d) p : ℝ) : EReal) := by
  pointwise [val_main_v48, val_main_v47, val_main_v3, val_main_v2]
  simp only [prob_at, Cert.ReferenceIdeal.Val.headsT_at, ← EReal.coe_mul, coe_sum]
  congr 1
  unfold mean
  have e := prob_shift (Softmax.foxScore (q b h p) (k b h) (a b h)) (-(a b h p 0 + a b h p 1 + a b h p 2) * Real.log 2) p
  exact Finset.sum_congr rfl fun κ _ => congrArg (· * _) (congrFun e κ)

end Cert.FoxRefIdeal.Val
-- ==== Proof.FoxBlock.lean ====
/- What one grid point of the forgetting attention leaves in its block. -/
module

public import proofs.«01_k».proof.Proof.FoxTile

@[expose] public section

set_option maxRecDepth 16384

noncomputable section

namespace Cert.FoxIdeal.Val

open Cert.FoxIdeal Cert.FoxIdeal.Gen Idealize.ShloMosaic Idealize.ShloMosaic.TcCoe Idealize.SL.Sem
open Idealize.ShloMosaic.Pipeline (Dat)

variable (m : (ℓ : Loc nD τ sig) → Buf (Elt Ideal) ℓ)

set_option maxHeartbeats 8000000 in
/-- What a grid point leaves in its block of the result. -/
theorem outsAt_eq (c : Dev nD) (t : Fin cfg0.N) (y : S1x1x4096x128.Idx) :
    outsAt0 m c t y = blockOut (iblk m c 0 t) (iblk m c 1 t) (iblk m c 3 t) (iblk m c 2 t) y := by
  have hQ : (ms0_0 t).view.read (Elt Ideal) ((hs0_0 t).unread (iblk m c 0 t)) = iblk m c 0 t := Memref.IsWhole.read_unread _ _
  have hK : (ms0_1 t).view.read (Elt Ideal) ((hs0_1 t).unread (iblk m c 1 t)) = iblk m c 1 t := Memref.IsWhole.read_unread _ _
  have hW : (ms0_2 t).view.read (Elt Ideal) ((hs0_2 t).unread (iblk m c 2 t)) = iblk m c 2 t := Memref.IsWhole.read_unread _ _
  have hA : (ms0_3 t).view.read (Elt Ideal) ((hs0_3 t).unread (iblk m c 3 t)) = iblk m c 3 t := Memref.IsWhole.read_unread _ _
  unfold outsAt0
  frame_open
  simp (disch := decide) only [↓ View.readCov_skip, ↓ View.readCov_cons_toLoadRect, ↓ View.readCov_fill, ↓ readCov_sums, ↓ readCov_total]
  frame_out
  try rw [hQ]
  try rw [hK]
  rw [hW]
  try rw [hA]
  canon_tiles x h
  all_goals first
    | (refine Eq.trans ?_ (blockOut_tile _ _ _ _ 0 y x (by omega) (by omega)).symm; rfl)
    | (refine Eq.trans ?_ (blockOut_tile _ _ _ _ 1 y x (by omega) (by omega)).symm; rfl)
    | (refine Eq.trans ?_ (blockOut_tile _ _ _ _ 2 y x (by omega) (by omega)).symm; rfl)
    | (refine Eq.trans ?_ (blockOut_tile _ _ _ _ 3 y x (by omega) (by omega)).symm; rfl)
    | (refine Eq.trans ?_ (blockOut_tile _ _ _ _ 4 y x (by omega) (by omega)).symm; rfl)
    | (refine Eq.trans ?_ (blockOut_tile _ _ _ _ 5 y x (by omega) (by omega)).symm; rfl)
    | (refine Eq.trans ?_ (blockOut_tile _ _ _ _ 6 y x (by omega) (by omega)).symm; rfl)
    | (refine Eq.trans ?_ (blockOut_tile _ _ _ _ 7 y x (by omega) (by omega)).symm; rfl)

end Cert.FoxIdeal.Val
-- ==== Proof.FoxFinal.lean ====
/- The result array of the forgetting attention. -/
module

public import proofs.«01_k».proof.Proof.FoxTile
public import proofs.«01_k».proof.Proof.FoxTileVal
public import proofs.«01_k».proof.Proof.FoxRefVal
public import proofs.«01_k».proof.Proof.FoxBlock
public import proofs.«01_k».proof.Proof.RefVal

@[expose] public section

set_option maxRecDepth 16384

noncomputable section

namespace Cert.FoxIdeal.Val

open Cert.Softmax
open Cert.ReferenceIdeal.Val (heads headsT)
open Cert.FoxIdeal Cert.FoxIdeal.Gen Idealize.ShloMosaic Idealize.ShloMosaic.TcCoe Idealize.SL.Sem
open Idealize.ShloMosaic.Pipeline (Dat)

/-- A grid point's blocks: its batch and its head. -/
theorem idx : ∀ t : Fin cfg0.N,
    win0_0.index t = ![(t : ℕ) / 4, (t : ℕ) % 4, 0, 0] ∧ win0_1.index t = ![(t : ℕ) / 4, (t : ℕ) % 4, 0, 0]
      ∧ win0_2.index t = ![(t : ℕ) / 4, (t : ℕ) % 4, 0, 0] ∧ win0_3.index t = ![(t : ℕ) / 4, (t : ℕ) % 4, 0, 0]
      ∧ win0_4.index t = ![(t : ℕ) / 4, (t : ℕ) % 4, 0, 0] :=
  (by decide +kernel : ∀ t : Fin grid0.N,
    win0_0.index t = ![(t : ℕ) / 4, (t : ℕ) % 4, 0, 0] ∧ win0_1.index t = ![(t : ℕ) / 4, (t : ℕ) % 4, 0, 0]
      ∧ win0_2.index t = ![(t : ℕ) / 4, (t : ℕ) % 4, 0, 0] ∧ win0_3.index t = ![(t : ℕ) / 4, (t : ℕ) % 4, 0, 0]
      ∧ win0_4.index t = ![(t : ℕ) / 4, (t : ℕ) % 4, 0, 0])

variable (m : (ℓ : Loc nD τ sig) → Buf (Elt Ideal) ℓ) (c : Dev nD)

/-- The batch of a grid point. -/
def batch (t : Fin cfg0.N) : Fin 8 := ⟨(t : ℕ) / 4, by have : (t : ℕ) < 32 := t.isLt; omega⟩

/-- The head of a grid point. -/
def head (t : Fin cfg0.N) : Fin 4 := ⟨(t : ℕ) % 4, by omega⟩

/-- A grid point's queries: those of its batch and head. -/
theorem queries_at (t : Fin cfg0.N) (p : Fin 4096) (d : Fin 128) :
    iblk m c 0 t (ix4 0 0 p d) = m ((c : Thread nD τ).loc main_arg0) (ix4 (batch t) (head t) p d) := by
  blk_ext [iblk, V, idx t, batch, head]

/-- A grid point's keys. -/
theorem keys_at (t : Fin cfg0.N) (p : Fin 4096) (d : Fin 128) :
    iblk m c 1 t (ix4 0 0 p d) = m ((c : Thread nD τ).loc main_arg1) (ix4 (batch t) (head t) p d) := by
  blk_ext [iblk, V, idx t, batch, head]

/-- A grid point's values, a dimension to a row. -/
theorem values_at (t : Fin cfg0.N) (d : Fin 128) (p : Fin 4096) :
    iblk m c 2 t (ix4 0 0 d p) = m ((c : Thread nD τ).loc main_arg2) (ix4 (batch t) (head t) d p) := by
  blk_ext [iblk, V, idx t, batch, head]

/-- A grid point's parts of the keys' logarithms. -/
theorem parts_at (t : Fin cfg0.N) (p : Fin 4096) (d : Fin 128) :
    iblk m c 3 t (ix4 0 0 p d) = m ((c : Thread nD τ).loc main_arg3) (ix4 (batch t) (head t) p d) := by
  blk_ext [iblk, V, idx t, batch, head]

variable (q k a : Fin 8 → Fin 4 → Fin 4096 → Fin 128 → ℝ) (v : Fin 8 → Fin 4 → Fin 128 → Fin 4096 → ℝ)
    (h0 : m ((c : Thread nD τ).loc main_arg0) = heads q) (h1 : m ((c : Thread nD τ).loc main_arg1) = heads k)
    (h2 : m ((c : Thread nD τ).loc main_arg2) = headsT v) (h3 : m ((c : Thread nD τ).loc main_arg3) = heads a)

include h0 h1 h2 h3

/-- What a grid point leaves at an entry of its block: the reference's result at that entry of its batch and head. -/
theorem block_value (t : Fin cfg0.N) (y : S1x1x4096x128.Idx) :
    blockOut (iblk m c 0 t) (iblk m c 1 t) (iblk m c 3 t) (iblk m c 2 t) y
      = Cert.FoxRefIdeal.Read.val_main_v48 (F := Ideal) (heads q) (heads k) (headsT v) (heads a) (ix4 (batch t) (head t) (y 2) (y 3)) := by
  have e := tileOut_real (q (batch t) (head t)) (k (batch t) (head t)) (a (batch t) (head t)) (v (batch t) (head t))
    (iblk m c 0 t) (iblk m c 1 t) (iblk m c 3 t) (iblk m c 2 t)
    (fun p x => by rw [queries_at, h0]; rfl) (fun p x => by rw [keys_at, h1]; rfl) (fun p x => by rw [parts_at, h3]; rfl) (fun d p => by rw [values_at, h2]; rfl)
    ((y 2 : ℕ) / 512) (by have : (y 2 : ℕ) < 4096 := (y 2).isLt; omega)
    ⟨(y 2 : ℕ) % 512, Nat.mod_lt _ (by decide)⟩ (y 3) (y 2) (by show (y 2 : ℕ) = (y 2 : ℕ) / 512 * 512 + (y 2 : ℕ) % 512; omega)
  exact e.trans (Cert.FoxRefIdeal.Val.result_at q k a v (batch t) (head t) (y 2) (y 3)).symm

/-- The kernel's result array is the reference's result of the same arguments. -/
theorem final : (dats m 0 c).arrAt 4 cfg0.N
    = Cert.FoxRefIdeal.Read.val_main_v48 (F := Ideal) (heads q) (heads k) (headsT v) (heads a) := by
  refine (dats m 0 c).arrAt_eq_of_covers 4 _ (by decide +kernel) fun t hf y => ?_
  have ey : ((cfg0.win 4).blk t).view.emb y = (ix4 (batch t) (head t) (y 2) (y 3) : S8x4x4096x128.Idx) := by
    blk_ext [idx t, batch, head]
  blk_simp
  rw [after0_4, outsAt_eq, ey]
  exact block_value m c q k a v h0 h1 h2 h3 t y

end Cert.FoxIdeal.Val
-- ==== Proof.Post.lean ====
/- The rows of the output projection and the gated embedding added to it. -/
module

public import Idealize.ShloMosaic.PureOps.Ideal
public import Idealize.ShloMosaic.Lib.Pipeline.ValueKit
public import Idealize.ShloMosaic.Lib.Pipeline.ReadBack

@[expose] public section

noncomputable section

namespace Cert.Post

open Idealize.ShloMosaic

/-- The logistic function. -/
def sigmoid (x : EReal) : EReal := Ideal.div 1 (1 + Ideal.exp (-x))

/-- An attention's output under its gate. -/
def gated (o z : EReal) : EReal := o * (z * sigmoid z)

/-- A row of the residual stream after the output projection. -/
def hidden (mixed h : Fin 1024 → EReal) (wo : Fin 1024 → Fin 1024 → EReal) (c : Fin 1024) : EReal := h c + ∑ k, mixed k * wo k c

/-- A row of the result: the residual stream and the gated embedding. -/
def row (mixed h : Fin 1024 → EReal) (p : Fin 256 → EReal) (wo wg : Fin 1024 → Fin 1024 → EReal) (wp : Fin 256 → Fin 1024 → EReal) (c : Fin 1024) : EReal :=
  hidden mixed h wo c + (∑ k, p k * wp k c) * sigmoid (∑ k, hidden mixed h wo k * wg k c)

/-- A block read at an entry. -/
theorem ld_at {s : Shape} {e : EltTy} {Val : EltTy → Type} (X : s.Idx → Val e) (off size : Fin s.rank → ℕ) (inb : ∀ a, off a + size a ≤ s.size a)
    (x : (Rect.unit (s := s) off size inb).shape.Idx) (y : s.Idx) (h : ∀ a, (y a : ℕ) = off a + x a) : View.ld X (Rect.unit (s := s) off size inb) x = X y := by
  rw [View.ld_unit]
  exact congrArg X (funext fun a => Fin.ext (h a).symm)

/-- A load of a whole matrix after stores whose entries are `G`'s. -/
theorem readCov_whole {sig : RefSig} {κ : Kind} {sp : Space} {n k : ℕ} {e : EltTy} {Val : EltTy → Type} [∀ e, Nonempty (Val e)]
    (v : View sig κ sp (⟨2, ![n, k]⟩ : Shape) e) (L : List (View.Piece Val (⟨2, ![n, k]⟩ : Shape) e)) (G : (⟨2, ![n, k]⟩ : Shape).Idx → Val e)
    (inb : ∀ a : Fin 2, (![0, 0] : Fin 2 → ℕ) a + (![n, k] : Fin 2 → ℕ) a ≤ (![n, k] : Fin 2 → ℕ) a) (h : ∀ y, View.canon L y = G y) :
    v.readCov L (Rect.unit (s := ⟨2, ![n, k]⟩) ![0, 0] ![n, k] inb).toLoadRect = G := by
  rw [View.readCov_eq_canon']
  funext x
  refine (h _).trans (congrArg G ?_)
  funext a
  apply Fin.ext
  revert a
  refine Fin.forall_fin_succ.mpr ⟨?_, Fin.forall_fin_succ.mpr ⟨?_, fun a => a.elim0⟩⟩ <;> simp [LoadRect.idx]

end Cert.Post
-- ==== Proof.PostEvenVal.lean ====
/- What one grid point of the even layer's last call leaves in its block. -/
module

public import proofs.«01_k».proof.Proof.Gen.PostEvenIdeal.Value
public import proofs.«01_k».proof.Proof.Post
public import proofs.«01_k».proof.Proof.Tile

@[expose] public section

set_option maxRecDepth 16384

noncomputable section

namespace Cert.PostEvenIdeal.Val

open Cert.Post
open Cert.PostEvenIdeal Cert.PostEvenIdeal.Gen Idealize.ShloMosaic Idealize.ShloMosaic.TcCoe Idealize.SL.Sem

/-- A head's entry of the two attentions: the first four heads are the one's, the last four the other's. -/
def headAt (OA OB : Vec Ideal S1x4x512x128 .bf16) (r : Fin 512) (k : Fin 1024) : EReal :=
  if (k : ℕ) < 512 then OA (ix4 0 ⟨(k : ℕ) / 128 % 4, by omega⟩ r ⟨(k : ℕ) % 128, by omega⟩)
    else OB (ix4 0 ⟨(k : ℕ) / 128 % 4, by omega⟩ r ⟨(k : ℕ) % 128, by omega⟩)

/-- The gated outputs of a block, all the heads side by side. -/
def mixed (OA OB : Vec Ideal S1x4x512x128 .bf16) (Z : Vec Ideal S512x1024 .bf16) : Vec Ideal S512x1024 .bf16 :=
  fun y => gated (headAt OA OB (y 0) (y 1)) (Z y)

/-- One store of the gated outputs, at an entry. -/
theorem piece_at (o : Vec Ideal S1x1x512x128 .bf16) (z : Vec Ideal S512x128 .bf16) (r : Fin 512) (l : Fin 128) :
    k0_pay2 o z (ix2 r l) = gated (o (ix4 0 0 r l)) (z (ix2 r l)) := by
  pointwise [k0_pay2]
  rw [zero_sub]
  rfl

/-- One store of the gated outputs: a head of an attention, in its columns. -/
theorem piece (OA OB X : Vec Ideal S1x4x512x128 .bf16) (Z : Vec Ideal S512x1024 .bf16) (n c : ℕ) (hX : n < 4 ∧ c = n ∧ X = OA ∨ n < 4 ∧ c = n + 4 ∧ X = OB)
    (i1 : ∀ a : Fin 4, (![0, n, 0, 0] : Fin 4 → ℕ) a + (![1, 1, 512, 128] : Fin 4 → ℕ) a ≤ S1x4x512x128.size a)
    (i2 : ∀ a : Fin 2, (![0, c * 128] : Fin 2 → ℕ) a + (![512, 128] : Fin 2 → ℕ) a ≤ S512x1024.size a)
    (x : S512x128.Idx) (y : S512x1024.Idx) (h0 : (y 0 : ℕ) = x 0) (h1 : (y 1 : ℕ) = c * 128 + x 1) :
    k0_pay2 (View.ld X (Rect.unit (s := S1x4x512x128) ![0, n, 0, 0] ![1, 1, 512, 128] i1))
      (View.ld Z (Rect.unit (s := S512x1024) ![0, c * 128] ![512, 128] i2)) x = mixed OA OB Z y := by
  obtain ⟨r, l, rfl⟩ : ∃ (r : Fin 512) (l : Fin 128), x = ix2 r l := ⟨x 0, x 1, by blk_ext⟩
  change (y 0 : ℕ) = r at h0
  change (y 1 : ℕ) = c * 128 + l at h1
  rw [piece_at]
  unfold mixed
  have eo : View.ld X (Rect.unit (s := S1x4x512x128) ![0, n, 0, 0] ![1, 1, 512, 128] i1) (ix4 0 0 r l) = headAt OA OB (y 0) (y 1) := by
    unfold headAt
    rcases hX with ⟨hn, rfl, rfl⟩ | ⟨hn, rfl, rfl⟩
    · rw [if_pos (by omega)]
      exact ld_at X _ _ _ _ _ (by intro a; fin_cases a <;> simp <;> omega)
    · rw [if_neg (by omega)]
      exact ld_at X _ _ _ _ _ (by intro a; fin_cases a <;> simp <;> omega)
  have ez : View.ld Z (Rect.unit (s := S512x1024) ![0, c * 128] ![512, 128] i2) (ix2 r l) = Z y := by
    exact ld_at Z _ _ _ _ _ (by intro a; fin_cases a <;> simp <;> omega)
  rw [eo, ez]

/-- A block's rows. -/
def blockOut (OA OB : Vec Ideal S1x4x512x128 .bf16) (Z : Vec Ideal S512x1024 .bf16) (H : Vec Ideal S512x1024 .f32) (P : Vec Ideal S1x512x256 .f32)
    (WO WG : Vec Ideal S1024x1024 .bf16) (WP : Vec Ideal S256x1024 .bf16) (y : S512x1024.Idx) : Elt Ideal .f32 :=
  row (fun k => mixed OA OB Z (ix2 (y 0) k)) (fun k => H (ix2 (y 0) k)) (fun k => P (ix3 0 (y 0) k)) (fun k c => WO (ix2 k c)) (fun k c => WG (ix2 k c))
    (fun k c => WP (ix2 k c)) (y 1)

/-- One store of the result, at an entry. -/
theorem chunk_at (H : Vec Ideal S512x1024 .f32) (M : Vec Ideal S512x1024 .bf16) (P : Vec Ideal S1x512x256 .f32)
    (WO : Vec Ideal S1024x1024 .bf16) (WG : Vec Ideal S1024x512 .bf16) (WP : Vec Ideal S256x512 .bf16) (B : Vec Ideal S512x512 .f32) (r : Fin 512) (l : Fin 512) :
    k0_pay1 (k0_pay10 P) (k0_pay13 H M WO) WG WP B (ix2 r l)
      = B (ix2 r l) + (∑ k, P (ix3 0 r k) * WP (ix2 k l)) * sigmoid (∑ k, hidden (fun k => M (ix2 r k)) (fun k => H (ix2 r k)) (fun k c => WO (ix2 k c)) k * WG (ix2 k l)) := by
  pointwise [k0_pay1, k0_pay10, k0_pay13, k0_pay11]
  rw [zero_sub]
  rfl

/-- The residual stream of a block. -/
theorem hidden_at (H : Vec Ideal S512x1024 .f32) (M : Vec Ideal S512x1024 .bf16) (WO : Vec Ideal S1024x1024 .bf16) (r : Fin 512) (l : Fin 1024) :
    k0_pay12 H M WO (ix2 r l) = hidden (fun k => M (ix2 r k)) (fun k => H (ix2 r k)) (fun k c => WO (ix2 k c)) l := by
  pointwise [k0_pay12, k0_pay11]
  rfl

/-- One store of the result: half the columns. -/
theorem chunk (OA OB : Vec Ideal S1x4x512x128 .bf16) (Z : Vec Ideal S512x1024 .bf16) (H : Vec Ideal S512x1024 .f32) (P : Vec Ideal S1x512x256 .f32)
    (WO WG : Vec Ideal S1024x1024 .bf16) (WP : Vec Ideal S256x1024 .bf16) (n : ℕ)
    (i1 : ∀ a : Fin 2, (![0, n * 512] : Fin 2 → ℕ) a + (![1024, 512] : Fin 2 → ℕ) a ≤ S1024x1024.size a)
    (i2 : ∀ a : Fin 2, (![0, n * 512] : Fin 2 → ℕ) a + (![256, 512] : Fin 2 → ℕ) a ≤ S256x1024.size a)
    (i3 : ∀ a : Fin 2, (![0, n * 512] : Fin 2 → ℕ) a + (![512, 512] : Fin 2 → ℕ) a ≤ S512x1024.size a)
    (x : S512x512.Idx) (y : S512x1024.Idx) (h0 : (y 0 : ℕ) = x 0) (h1 : (y 1 : ℕ) = n * 512 + x 1) :
    k0_pay1 (k0_pay10 P) (k0_pay13 H (mixed OA OB Z) WO) (View.ld WG (Rect.unit (s := S1024x1024) ![0, n * 512] ![1024, 512] i1))
      (View.ld WP (Rect.unit (s := S256x1024) ![0, n * 512] ![256, 512] i2))
      (View.ld (k0_pay12 H (mixed OA OB Z) WO) (Rect.unit (s := S512x1024) ![0, n * 512] ![512, 512] i3)) x = blockOut OA OB Z H P WO WG WP y := by
  obtain ⟨r, l, rfl⟩ : ∃ (r l : Fin 512), x = ix2 r l := ⟨x 0, x 1, by blk_ext⟩
  obtain ⟨r', q, rfl⟩ : ∃ (r' : Fin 512) (q : Fin 1024), y = ix2 r' q := ⟨y 0, y 1, by blk_ext⟩
  change (r' : ℕ) = r at h0
  change (q : ℕ) = n * 512 + l at h1
  obtain rfl : r' = r := Fin.ext h0
  rw [chunk_at]
  have eh : View.ld (Val := Elt Ideal) (e' := .f32) (k0_pay12 H (mixed OA OB Z) WO) (Rect.unit (s := S512x1024) ![0, n * 512] ![512, 512] i3) (ix2 r' l)
      = k0_pay12 H (mixed OA OB Z) WO (ix2 r' q) :=
    ld_at (s := S512x1024) (Val := Elt Ideal) (e := .f32) (k0_pay12 H (mixed OA OB Z) WO) ![0, n * 512] ![512, 512] i3 (ix2 r' l) (ix2 r' q)
      (by intro a; fin_cases a <;> simp <;> omega)
  have eg : ∀ k : Fin 1024, View.ld WG (Rect.unit (s := S1024x1024) ![0, n * 512] ![1024, 512] i1) (ix2 k l) = WG (ix2 k q) := by
    intro k
    exact ld_at WG _ _ _ _ _ (by intro a; fin_cases a <;> simp <;> omega)
  have ep : ∀ k : Fin 256, View.ld WP (Rect.unit (s := S256x1024) ![0, n * 512] ![256, 512] i2) (ix2 k l) = WP (ix2 k q) := by
    intro k
    exact ld_at WP _ _ _ _ _ (by intro a; fin_cases a <;> simp <;> omega)
  rw [eh, hidden_at]
  simp only [eg, ep]
  rfl

/-- The eight stores of the gated outputs compute alike, and so do the two of the result. -/
theorem pays_eq : k0_pay3 (F := Ideal) = k0_pay2 ∧ k0_pay4 (F := Ideal) = k0_pay2 ∧ k0_pay5 (F := Ideal) = k0_pay2 ∧ k0_pay6 (F := Ideal) = k0_pay2
    ∧ k0_pay7 (F := Ideal) = k0_pay2 ∧ k0_pay8 (F := Ideal) = k0_pay2 ∧ k0_pay9 (F := Ideal) = k0_pay2
    ∧ k0_pay14 (F := Ideal) = fun H P M WO WG WP B => k0_pay1 (k0_pay10 P) (k0_pay13 H M WO) WG WP B := ⟨rfl, rfl, rfl, rfl, rfl, rfl, rfl, rfl⟩

variable (m : (ℓ : Loc nD τ sig) → Buf (Elt Ideal) ℓ)

set_option maxHeartbeats 8000000 in
/-- What a grid point leaves in its block of the result. -/
theorem outsAt_eq (c : Dev nD) (t : Fin cfg0.N) (y : S512x1024.Idx) :
    outsAt0 m c t y = blockOut (iblk m c 1 t) (iblk m c 2 t) (iblk m c 3 t) (iblk m c 0 t) (iblk m c 4 t) (iblk m c 5 t) (iblk m c 6 t) (iblk m c 7 t) y := by
  unfold outsAt0
  frame_open
  frame_out
  obtain ⟨e3, e4, e5, e6, e7, e8, e9, e14⟩ := pays_eq
  rw [e3, e4, e5, e6, e7, e8, e9, e14]
  rw [readCov_whole (View.whole cc0_scratch0) _ (mixed (iblk m c 1 t) (iblk m c 2 t) (iblk m c 3 t))]
  swap
  · intro y
    canon_tiles x h
    · exact piece _ _ _ _ 3 7 (by simp) _ _ x y (by omega) (by omega)
    · exact piece _ _ _ _ 2 6 (by simp) _ _ x y (by omega) (by omega)
    · exact piece _ _ _ _ 1 5 (by simp) _ _ x y (by omega) (by omega)
    · exact piece _ _ _ _ 0 4 (by simp) _ _ x y (by omega) (by omega)
    · exact piece _ _ _ _ 3 3 (by simp) _ _ x y (by omega) (by omega)
    · exact piece _ _ _ _ 2 2 (by simp) _ _ x y (by omega) (by omega)
    · exact piece _ _ _ _ 1 1 (by simp) _ _ x y (by omega) (by omega)
    · exact piece _ _ _ _ 0 0 (by simp) _ _ x y (by omega) (by omega)
  rw [View.readCov_fill _ _ _ _ _ (by decide : ∀ a : Fin 2, (![0, 0] : Fin 2 → ℕ) a = 0),
    View.readCov_fill _ _ _ _ _ (by decide : ∀ a : Fin 2, (![0, 0] : Fin 2 → ℕ) a = 0)]
  canon_tiles x h
  · exact chunk _ _ _ _ _ _ _ _ 1 _ _ _ x y (by omega) (by omega)
  · exact chunk _ _ _ _ _ _ _ _ 0 _ _ _ x y (by omega) (by omega)

end Cert.PostEvenIdeal.Val
-- ==== Proof.PostEvenRefVal.lean ====
/- The reference of the even layer's last call at an index. -/
module

public import proofs.«01_k».proof.Proof.Gen.PostEvenRefIdeal.Read
public import Idealize.ShloMosaic.Lib.Pipeline.ValueKit
public import proofs.«01_k».proof.Proof.Post

@[expose] public section

set_option maxRecDepth 16384

noncomputable section

namespace Cert.PostEvenRefIdeal.Val

open Cert.Post
open Cert.PostEvenRefIdeal Cert.PostEvenRefIdeal.Gen Cert.PostEvenRefIdeal.Read Idealize.ShloMosaic Idealize.ShloMosaic.TcCoe Idealize.SL.Sem

variable (x0 : Vec Ideal S8x4096x1024 .f32) (x1 x2 : Vec Ideal S8x4x4096x128 .bf16) (x3 : Vec Ideal S32768x1024 .bf16) (x4 : Vec Ideal S2x8x4096x256 .f32)
  (x5 : Vec Ideal S1x1024x1024 .f32) (x6 : Vec Ideal S2x1024x1024 .f32) (x7 : Vec Ideal S2x256x1024 .f32)

/-- A head's entry of the two attentions. -/
def headAt (b : Fin 8) (p : Fin 4096) (k : Fin 1024) : EReal :=
  if (k : ℕ) < 512 then x1 (ix4 b ⟨(k : ℕ) / 128 % 4, by omega⟩ p ⟨(k : ℕ) % 128, by omega⟩)
    else x2 (ix4 b ⟨(k : ℕ) / 128 % 4, by omega⟩ p ⟨(k : ℕ) % 128, by omega⟩)

/-- The gated outputs of a position. -/
theorem mixed_at (b : Fin 8) (p : Fin 4096) (k : Fin 1024) :
    val_main_v10 (F := Ideal) x1 x2 x3 (ix3 b p k)
      = gated (headAt x1 x2 b p k) (x3 (ix2 ⟨(b : ℕ) * 4096 + p, by omega⟩ k)) := by
  pointwise [val_main_v10, val_main_v9, val_main_v8, val_main_v7, val_main_v6, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]
  unfold gated sigmoid headAt
  congr 1
  split
  · exact congrArg x1 (by blk_ext)
  · exact congrArg x2 (by blk_ext)

/-- The residual stream of a position. -/
theorem hidden_at (b : Fin 8) (p : Fin 4096) (k : Fin 1024) :
    val_main_v13 (F := Ideal) x0 x1 x2 x3 x5 (ix3 b p k)
      = hidden (fun k => gated (headAt x1 x2 b p k) (x3 (ix2 ⟨(b : ℕ) * 4096 + p, by omega⟩ k))) (fun k => x0 (ix3 b p k)) (fun k c => x5 (ix3 0 k c)) k := by
  have e := mixed_at x1 x2 x3 b p
  rw [val_main_v13]
  unfold val_main_v12
  generalize val_main_v10 (F := Ideal) x1 x2 x3 = M at e
  pointwise [val_main_v11]
  simp only [e]
  rfl

/-- The reference's result at a position. -/
theorem result_at (b : Fin 8) (p : Fin 4096) (c : Fin 1024) :
    val_main_v30 (F := Ideal) x0 x1 x2 x3 x4 x5 x6 x7 (ix2 ⟨(b : ℕ) * 4096 + p, by omega⟩ c)
      = row (fun k => gated (headAt x1 x2 b p k) (x3 (ix2 ⟨(b : ℕ) * 4096 + p, by omega⟩ k))) (fun k => x0 (ix3 b p k)) (fun k => x4 (ix4 0 b p k))
        (fun k c => x5 (ix3 0 k c)) (fun k c => x6 (ix3 0 k c)) (fun k c => x7 (ix3 0 k c)) c := by
  have e := hidden_at x0 x1 x2 x3 x5 b p
  unfold val_main_v30 val_main_v29 val_main_v28 val_main_v27 val_main_v26 val_main_v25 val_main_v23 val_main_v22 val_main_v21
  generalize val_main_v13 (F := Ideal) x0 x1 x2 x3 x5 = M at e
  pointwise [val_main_v24, val_main_v20, val_main_v19, val_main_v18, val_main_v17, val_main_v16, val_main_v15, val_main_v14, val_main_cst, val_main_cst_0]
  simp only [e]
  rfl

end Cert.PostEvenRefIdeal.Val
-- ==== Proof.PostEvenFinal.lean ====
/- The result array of the even layer's last call. -/
module

public import proofs.«01_k».proof.Proof.PostEvenVal
public import proofs.«01_k».proof.Proof.PostEvenRefVal

@[expose] public section

set_option maxRecDepth 16384

noncomputable section

namespace Cert.PostEvenIdeal.Val

open Cert.Post
open Cert.PostEvenIdeal Cert.PostEvenIdeal.Gen Idealize.ShloMosaic Idealize.ShloMosaic.TcCoe Idealize.SL.Sem
open Idealize.ShloMosaic.Pipeline (Dat)

/-- A grid point's blocks: its rows, and of the heads its batch and its positions. -/
theorem idx : ∀ t : Fin cfg0.N,
    win0_0.index t = ![(t : ℕ), 0] ∧ win0_1.index t = ![(t : ℕ) / 8, 0, (t : ℕ) % 8, 0] ∧ win0_2.index t = ![(t : ℕ) / 8, 0, (t : ℕ) % 8, 0]
      ∧ win0_3.index t = ![(t : ℕ), 0] ∧ win0_4.index t = ![0, (t : ℕ), 0] ∧ win0_5.index t = ![0, 0] ∧ win0_6.index t = ![0, 0]
      ∧ win0_7.index t = ![0, 0] ∧ win0_8.index t = ![(t : ℕ), 0] :=
  (by decide +kernel : ∀ t : Fin grid0.N,
    win0_0.index t = ![(t : ℕ), 0] ∧ win0_1.index t = ![(t : ℕ) / 8, 0, (t : ℕ) % 8, 0] ∧ win0_2.index t = ![(t : ℕ) / 8, 0, (t : ℕ) % 8, 0]
      ∧ win0_3.index t = ![(t : ℕ), 0] ∧ win0_4.index t = ![0, (t : ℕ), 0] ∧ win0_5.index t = ![0, 0] ∧ win0_6.index t = ![0, 0]
      ∧ win0_7.index t = ![0, 0] ∧ win0_8.index t = ![(t : ℕ), 0])

variable (m : (ℓ : Loc nD τ sig) → Buf (Elt Ideal) ℓ) (c : Dev nD)

/-- The batch of a grid point. -/
def batch (t : Fin cfg0.N) : Fin 8 := ⟨(t : ℕ) / 8, by have : (t : ℕ) < 64 := t.isLt; omega⟩

/-- The position of a row of a grid point's block. -/
def pos (t : Fin cfg0.N) (r : Fin 512) : Fin 4096 := ⟨(t : ℕ) % 8 * 512 + r, by omega⟩

/-- The row of the arrays of a row of a grid point's block. -/
def rowOf (t : Fin cfg0.N) (r : Fin 512) : Fin 32768 := ⟨(batch t : ℕ) * 4096 + pos t r, by have := (batch t).isLt; have := (pos t r).isLt; omega⟩

/-- The residual stream, a position to a row. -/
theorem V_stream (b : Fin 8) (p : Fin 4096) (k : Fin 1024) :
    V m c main_v0 (ix2 ⟨(b : ℕ) * 4096 + p, by omega⟩ k) = m ((c : Thread nD τ).loc main_arg0) (ix3 b p k) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The tokens' rows of the layers' embeddings, a position to a row. -/
theorem V_tokens (b : Fin 8) (p : Fin 4096) (k : Fin 256) :
    V m c main_v1 (ix3 0 ⟨(b : ℕ) * 4096 + p, by omega⟩ k) = m ((c : Thread nD τ).loc main_arg4) (ix4 0 b p k) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The output projection. -/
theorem V_out (k l : Fin 1024) : V m c main_v3 (ix2 k l) = m ((c : Thread nD τ).loc main_arg5) (ix3 0 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The layer's gate. -/
theorem V_gate (k l : Fin 1024) : V m c main_v6 (ix2 k l) = m ((c : Thread nD τ).loc main_arg6) (ix3 0 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The layer's projection of the embeddings. -/
theorem V_emb (k : Fin 256) (l : Fin 1024) : V m c main_v9 (ix2 k l) = m ((c : Thread nD τ).loc main_arg7) (ix3 0 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- A grid point's rows of the residual stream. -/
theorem stream_at (t : Fin cfg0.N) (r : Fin 512) (k : Fin 1024) :
    iblk m c 0 t (ix2 r k) = m ((c : Thread nD τ).loc main_arg0) (ix3 (batch t) (pos t r) k) := by
  refine Eq.trans ?_ (V_stream m c (batch t) (pos t r) k)
  blk_ext [iblk, idx t, batch, pos, rowOf]

/-- A grid point's rows of the first half of the heads. -/
theorem first_at (t : Fin cfg0.N) (h : Fin 4) (r : Fin 512) (d : Fin 128) :
    iblk m c 1 t (ix4 0 h r d) = m ((c : Thread nD τ).loc main_arg1) (ix4 (batch t) h (pos t r) d) := by
  blk_ext [iblk, V, idx t, batch, pos]

/-- A grid point's rows of the second half of the heads. -/
theorem second_at (t : Fin cfg0.N) (h : Fin 4) (r : Fin 512) (d : Fin 128) :
    iblk m c 2 t (ix4 0 h r d) = m ((c : Thread nD τ).loc main_arg2) (ix4 (batch t) h (pos t r) d) := by
  blk_ext [iblk, V, idx t, batch, pos]

/-- A grid point's rows of the heads' gates. -/
theorem gates_at (t : Fin cfg0.N) (r : Fin 512) (k : Fin 1024) :
    iblk m c 3 t (ix2 r k) = m ((c : Thread nD τ).loc main_arg3) (ix2 (rowOf t r) k) := by
  blk_ext [iblk, V, idx t, batch, pos, rowOf]

/-- A grid point's rows of the embeddings. -/
theorem tokens_at (t : Fin cfg0.N) (r : Fin 512) (k : Fin 256) :
    iblk m c 4 t (ix3 0 r k) = m ((c : Thread nD τ).loc main_arg4) (ix4 0 (batch t) (pos t r) k) := by
  refine Eq.trans ?_ (V_tokens m c (batch t) (pos t r) k)
  blk_ext [iblk, idx t, batch, pos, rowOf]

/-- Every grid point has the whole output projection. -/
theorem out_at (t : Fin cfg0.N) (k l : Fin 1024) : iblk m c 5 t (ix2 k l) = m ((c : Thread nD τ).loc main_arg5) (ix3 0 k l) := by
  rw [← V_out m c]
  blk_ext [iblk, idx t]

/-- Every grid point has the whole gate. -/
theorem gate_at (t : Fin cfg0.N) (k l : Fin 1024) : iblk m c 6 t (ix2 k l) = m ((c : Thread nD τ).loc main_arg6) (ix3 0 k l) := by
  rw [← V_gate m c]
  blk_ext [iblk, idx t]

/-- Every grid point has the whole projection of the embeddings. -/
theorem emb_at (t : Fin cfg0.N) (k : Fin 256) (l : Fin 1024) : iblk m c 7 t (ix2 k l) = m ((c : Thread nD τ).loc main_arg7) (ix3 0 k l) := by
  rw [← V_emb m c]
  blk_ext [iblk, idx t]

/-- A head's gated entry in a grid point's block. -/
theorem mixed_eq (t : Fin cfg0.N) (r : Fin 512) (k : Fin 1024) :
    mixed (iblk m c 1 t) (iblk m c 2 t) (iblk m c 3 t) (ix2 r k)
      = gated (Cert.PostEvenRefIdeal.Val.headAt (m ((c : Thread nD τ).loc main_arg1)) (m ((c : Thread nD τ).loc main_arg2)) (batch t) (pos t r) k)
          (m ((c : Thread nD τ).loc main_arg3) (ix2 (rowOf t r) k)) := by
  unfold mixed
  rw [gates_at]
  unfold Cert.PostEvenRefIdeal.Val.headAt
  rw [← first_at m c t, ← second_at m c t]
  rfl

/-- What a grid point leaves at an entry of its block: the reference's result at that entry. -/
theorem block_value (t : Fin cfg0.N) (y : S512x1024.Idx) :
    blockOut (iblk m c 1 t) (iblk m c 2 t) (iblk m c 3 t) (iblk m c 0 t) (iblk m c 4 t) (iblk m c 5 t) (iblk m c 6 t) (iblk m c 7 t) y
      = Cert.PostEvenRefIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) (ix2 (rowOf t (y 0)) (y 1)) := by
  obtain ⟨r, l, rfl⟩ : ∃ (r : Fin 512) (l : Fin 1024), y = ix2 r l := ⟨y 0, y 1, by blk_ext⟩
  refine Eq.trans ?_ (Cert.PostEvenRefIdeal.Val.result_at _ _ _ _ _ _ _ _ (batch t) (pos t r) l).symm
  show row (fun k => mixed (iblk m c 1 t) (iblk m c 2 t) (iblk m c 3 t) (ix2 r k)) (fun k => iblk m c 0 t (ix2 r k)) (fun k => iblk m c 4 t (ix3 0 r k))
    (fun k l => iblk m c 5 t (ix2 k l)) (fun k l => iblk m c 6 t (ix2 k l)) (fun k l => iblk m c 7 t (ix2 k l)) l = _
  simp only [mixed_eq, stream_at, tokens_at, out_at, gate_at, emb_at]
  rfl

/-- The kernel's result array is the reference's result of the same arguments. -/
theorem final : (dats m 0 c).arrAt 8 cfg0.N
    = Cert.PostEvenRefIdeal.Read.val_main_v30 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7)) := by
  refine (dats m 0 c).arrAt_eq_of_covers 8 _ (by decide +kernel) fun t hf y => ?_
  have ey : ((cfg0.win 8).blk t).view.emb y = (ix2 (rowOf t (y 0)) (y 1) : S32768x1024.Idx) := by
    blk_ext [idx t, batch, pos, rowOf]
  blk_simp
  rw [after0_8, outsAt_eq, ey]
  exact block_value m c t y

end Cert.PostEvenIdeal.Val
-- ==== Proof.PostOddVal.lean ====
/- What one grid point of the odd layer's last call leaves in its block. -/
module

public import proofs.«01_k».proof.Proof.Gen.PostOddIdeal.Value
public import proofs.«01_k».proof.Proof.Post
public import proofs.«01_k».proof.Proof.Tile

@[expose] public section

set_option maxRecDepth 16384

noncomputable section

namespace Cert.PostOddIdeal.Val

open Cert.Post
open Cert.PostOddIdeal Cert.PostOddIdeal.Gen Idealize.ShloMosaic Idealize.ShloMosaic.TcCoe Idealize.SL.Sem
variable (m : (ℓ : Loc nD τ sig) → Buf (Elt Ideal) ℓ)

/-- The gated outputs of a block, the heads side by side, the residues one after another. -/
def mixed (O : Vec Ideal S1x8x8x64x128 .bf16) (Z : Vec Ideal S1x8x64x1024 .bf16) : Vec Ideal S512x1024 .bf16 := fun y =>
  gated (O (ix5 0 ⟨(y 1 : ℕ) / 128 % 8, by omega⟩ ⟨(y 0 : ℕ) / 64 % 8, by omega⟩ ⟨(y 0 : ℕ) % 64, by omega⟩ ⟨(y 1 : ℕ) % 128, by omega⟩))
    (Z (ix4 0 ⟨(y 0 : ℕ) / 64 % 8, by omega⟩ ⟨(y 0 : ℕ) % 64, by omega⟩ (y 1)))

/-- One store of the gated outputs, at an entry. -/
theorem piece_at (o : Vec Ideal S1x1x1x64x128 .bf16) (z : Vec Ideal S1x1x64x128 .bf16) (r : Fin 64) (l : Fin 128) :
    k0_pay4 o z (ix2 r l) = gated (o (ix5 0 0 0 r l)) (z (ix4 0 0 r l)) := by
  pointwise [k0_pay4]
  rw [zero_sub]
  rfl

/-- One store of the gated outputs: a head, a residue's rows. -/
theorem piece (O : Vec Ideal S1x8x8x64x128 .bf16) (Z : Vec Ideal S1x8x64x1024 .bf16) (h n c : ℕ) (hh : h < 8) (hn : n < 8) (hc : c = h * 128)
    (i1 : ∀ a : Fin 5, (![0, h, n, 0, 0] : Fin 5 → ℕ) a + (![1, 1, 1, 64, 128] : Fin 5 → ℕ) a ≤ S1x8x8x64x128.size a)
    (i2 : ∀ a : Fin 4, (![0, n, 0, c] : Fin 4 → ℕ) a + (![1, 1, 64, 128] : Fin 4 → ℕ) a ≤ S1x8x64x1024.size a)
    (x : S64x128.Idx) (y : S512x1024.Idx) (h0 : (y 0 : ℕ) = n * 64 + x 0) (h1 : (y 1 : ℕ) = c + x 1) :
    k0_pay4 (View.ld O (Rect.unit (s := S1x8x8x64x128) ![0, h, n, 0, 0] ![1, 1, 1, 64, 128] i1))
      (View.ld Z (Rect.unit (s := S1x8x64x1024) ![0, n, 0, c] ![1, 1, 64, 128] i2)) x = mixed O Z y := by
  obtain ⟨r, l, rfl⟩ : ∃ (r : Fin 64) (l : Fin 128), x = ix2 r l := ⟨x 0, x 1, by blk_ext⟩
  change (y 0 : ℕ) = n * 64 + r at h0
  change (y 1 : ℕ) = c + l at h1
  rw [piece_at]
  unfold mixed
  congr 1
  · exact ld_at O _ _ _ _ _ (by intro a; fin_cases a <;> simp <;> omega)
  · exact ld_at Z _ _ _ _ _ (by intro a; fin_cases a <;> simp <;> omega)

/-- The rows of a block of the residual stream, the residues one after another. -/
def stream (H : Vec Ideal S1x64x8x1024 .f32) : Vec Ideal S512x1024 .f32 := fun y =>
  H (ix4 0 ⟨(y 0 : ℕ) % 64, by omega⟩ ⟨(y 0 : ℕ) / 64 % 8, by omega⟩ (y 1))

/-- The rows of a block of the embeddings, the residues one after another. -/
def tokens (P : Vec Ideal S1x1x64x8x256 .f32) : Vec Ideal S512x256 .bf16 := fun y =>
  P (ix5 0 0 ⟨(y 0 : ℕ) % 64, by omega⟩ ⟨(y 0 : ℕ) / 64 % 8, by omega⟩ (y 1))

/-- The stream's residues are put one after another. -/
theorem stream_eq (H : Vec Ideal S1x64x8x1024 .f32) :
    k0_pay129 (k0_pay123 (View.ld H (Rect.unit (s := S1x64x8x1024) ![0, 0, 0, 0] ![1, 64, 1, 1024] inb_S1x64x8x1024_S1x64x1x1024_0_0_0_0)))
      (k0_pay124 (View.ld H (Rect.unit (s := S1x64x8x1024) ![0, 0, 1, 0] ![1, 64, 1, 1024] inb_S1x64x8x1024_S1x64x1x1024_0_0_1_0)))
      (k0_pay125 (View.ld H (Rect.unit (s := S1x64x8x1024) ![0, 0, 2, 0] ![1, 64, 1, 1024] inb_S1x64x8x1024_S1x64x1x1024_0_0_2_0)))
      (k0_pay126 (View.ld H (Rect.unit (s := S1x64x8x1024) ![0, 0, 3, 0] ![1, 64, 1, 1024] inb_S1x64x8x1024_S1x64x1x1024_0_0_3_0)))
      (k0_pay127 (View.ld H (Rect.unit (s := S1x64x8x1024) ![0, 0, 4, 0] ![1, 64, 1, 1024] inb_S1x64x8x1024_S1x64x1x1024_0_0_4_0)))
      (k0_pay128 (View.ld H (Rect.unit (s := S1x64x8x1024) ![0, 0, 5, 0] ![1, 64, 1, 1024] inb_S1x64x8x1024_S1x64x1x1024_0_0_5_0)))
      (View.ld H (Rect.unit (s := S1x64x8x1024) ![0, 0, 6, 0] ![1, 64, 1, 1024] inb_S1x64x8x1024_S1x64x1x1024_0_0_6_0))
      (View.ld H (Rect.unit (s := S1x64x8x1024) ![0, 0, 7, 0] ![1, 64, 1, 1024] inb_S1x64x8x1024_S1x64x1x1024_0_0_7_0)) = stream H := by
  funext y
  obtain ⟨r, l, rfl⟩ : ∃ (r : Fin 512) (l : Fin 1024), y = ix2 r l := ⟨y 0, y 1, by blk_ext⟩
  pointwise [k0_pay129, k0_pay123, k0_pay124, k0_pay125, k0_pay126, k0_pay127, k0_pay128]
  unfold stream
  split_ifs
  all_goals first | omega | exact congrArg H (by blk_ext)

/-- So are the embeddings'. -/
theorem tokens_eq (P : Vec Ideal S1x1x64x8x256 .f32) :
    k0_pay137 (k0_pay130 (View.ld P (Rect.unit (s := S1x1x64x8x256) ![0, 0, 0, 0, 0] ![1, 1, 64, 1, 256] inb_S1x1x64x8x256_S1x1x64x1x256_0_0_0_0_0)))
      (k0_pay131 (View.ld P (Rect.unit (s := S1x1x64x8x256) ![0, 0, 0, 1, 0] ![1, 1, 64, 1, 256] inb_S1x1x64x8x256_S1x1x64x1x256_0_0_0_1_0)))
      (k0_pay132 (View.ld P (Rect.unit (s := S1x1x64x8x256) ![0, 0, 0, 2, 0] ![1, 1, 64, 1, 256] inb_S1x1x64x8x256_S1x1x64x1x256_0_0_0_2_0)))
      (k0_pay133 (View.ld P (Rect.unit (s := S1x1x64x8x256) ![0, 0, 0, 3, 0] ![1, 1, 64, 1, 256] inb_S1x1x64x8x256_S1x1x64x1x256_0_0_0_3_0)))
      (k0_pay134 (View.ld P (Rect.unit (s := S1x1x64x8x256) ![0, 0, 0, 4, 0] ![1, 1, 64, 1, 256] inb_S1x1x64x8x256_S1x1x64x1x256_0_0_0_4_0)))
      (k0_pay135 (View.ld P (Rect.unit (s := S1x1x64x8x256) ![0, 0, 0, 5, 0] ![1, 1, 64, 1, 256] inb_S1x1x64x8x256_S1x1x64x1x256_0_0_0_5_0)))
      (k0_pay136 (View.ld P (Rect.unit (s := S1x1x64x8x256) ![0, 0, 0, 6, 0] ![1, 1, 64, 1, 256] inb_S1x1x64x8x256_S1x1x64x1x256_0_0_0_6_0)))
      (View.ld P (Rect.unit (s := S1x1x64x8x256) ![0, 0, 0, 7, 0] ![1, 1, 64, 1, 256] inb_S1x1x64x8x256_S1x1x64x1x256_0_0_0_7_0)) = tokens P := by
  funext y
  obtain ⟨r, l, rfl⟩ : ∃ (r : Fin 512) (l : Fin 256), y = ix2 r l := ⟨y 0, y 1, by blk_ext⟩
  pointwise [k0_pay137, k0_pay130, k0_pay131, k0_pay132, k0_pay133, k0_pay134, k0_pay135, k0_pay136]
  unfold tokens
  split_ifs
  all_goals first | omega | exact congrArg P (by blk_ext)

/-- The residual stream of a block. -/
theorem hidden_at (H : Vec Ideal S512x1024 .f32) (M : Vec Ideal S512x1024 .bf16) (WO : Vec Ideal S1024x1024 .bf16) (r : Fin 512) (l : Fin 1024) :
    k0_pay138 H M WO (ix2 r l) = hidden (fun k => M (ix2 r k)) (fun k => H (ix2 r k)) (fun k c => WO (ix2 k c)) l := by
  pointwise [k0_pay138]
  rfl

/-- Half the columns of a block of the result, at an entry. -/
theorem half_at (H : Vec Ideal S512x1024 .f32) (M : Vec Ideal S512x1024 .bf16) (WO WG : Vec Ideal S1024x1024 .bf16) (WP : Vec Ideal S256x1024 .bf16) (P : Vec Ideal S512x256 .bf16)
    (n : ℕ)
    (i1 : ∀ a : Fin 2, (![0, n] : Fin 2 → ℕ) a + (![1024, 512] : Fin 2 → ℕ) a ≤ S1024x1024.size a)
    (i2 : ∀ a : Fin 2, (![0, n] : Fin 2 → ℕ) a + (![256, 512] : Fin 2 → ℕ) a ≤ S256x1024.size a)
    (i3 : ∀ a : Fin 2, (![0, n] : Fin 2 → ℕ) a + (![512, 512] : Fin 2 → ℕ) a ≤ S512x1024.size a) (r l : Fin 512) (q : Fin 1024) (hq : (q : ℕ) = n + l) :
    k0_pay152 P (k0_pay140 H M WO) (View.ld WG (Rect.unit (s := S1024x1024) ![0, n] ![1024, 512] i1))
      (View.ld WP (Rect.unit (s := S256x1024) ![0, n] ![256, 512] i2))
      (View.ld (k0_pay139 H M WO) (Rect.unit (s := S512x1024) ![0, n] ![512, 512] i3)) (ix2 r l)
      = row (fun k => M (ix2 r k)) (fun k => H (ix2 r k)) (fun k => P (ix2 r k)) (fun k c => WO (ix2 k c)) (fun k c => WG (ix2 k c)) (fun k c => WP (ix2 k c)) q := by
  have e9 : k0_pay139 H M WO = k0_pay138 H M WO := by funext y; pointwise [k0_pay139]
  have eh : View.ld (Val := Elt Ideal) (e' := .f32) (k0_pay138 H M WO) (Rect.unit (s := S512x1024) ![0, n] ![512, 512] i3) (ix2 r l)
      = k0_pay138 H M WO (ix2 r q) :=
    ld_at (s := S512x1024) (Val := Elt Ideal) (e := .f32) (k0_pay138 H M WO) ![0, n] ![512, 512] i3 (ix2 r l) (ix2 r q)
      (by intro a; fin_cases a <;> simp <;> omega)
  have eg : ∀ k : Fin 1024, View.ld WG (Rect.unit (s := S1024x1024) ![0, n] ![1024, 512] i1) (ix2 k l) = WG (ix2 k q) := by
    intro k
    exact ld_at WG _ _ _ _ _ (by intro a; fin_cases a <;> simp <;> omega)
  have ep : ∀ k : Fin 256, View.ld WP (Rect.unit (s := S256x1024) ![0, n] ![256, 512] i2) (ix2 k l) = WP (ix2 k q) := by
    intro k
    exact ld_at WP _ _ _ _ _ (by intro a; fin_cases a <;> simp <;> omega)
  have e := hidden_at H M WO r
  have e10 : ∀ k : Fin 1024, k0_pay140 H M WO (ix2 r k) = hidden (fun k => M (ix2 r k)) (fun k => H (ix2 r k)) (fun k c => WO (ix2 k c)) k := by
    intro k
    exact (e k ▸ rfl)
  rw [e9]
  generalize k0_pay140 H M WO = B' at e10
  generalize k0_pay138 H M WO = B at e eh
  have e12 : ∀ (U : Vec Ideal S1024x512 .bf16) (W : Vec Ideal S256x512 .bf16) (V : Vec Ideal S512x512 .f32), k0_pay152 P B' U W V (ix2 r l)
      = V (ix2 r l) + (∑ k, P (ix2 r k) * W (ix2 k l)) * sigmoid (∑ k, B' (ix2 r k) * U (ix2 k l)) := by
    intro U W V
    pointwise [k0_pay152]
    rw [zero_sub]
    rfl
  rw [e12, eh, e]
  simp only [e10, eg, ep]
  rfl

/-- One store of the result, at an entry: a residue's rows. -/
theorem store_at (V : Vec Ideal S512x512 .f32) (n : ℕ) (hn : n + 64 ≤ 512) (i : S512x512.Slices ![n, 0] S64x512) (j : S64x512.ShapeCasts S1x64x1x512) (r : Fin 64) (l : Fin 512) :
    shapeCast S1x64x1x512 (extractStridedSlice S64x512 ![n, 0] V i) j (ix4 0 r 0 l) = V (ix2 ⟨n + r, by omega⟩ l) := by
  pointwise

/-- A block's rows of the result. -/
def blockOut (O : Vec Ideal S1x8x8x64x128 .bf16) (Z : Vec Ideal S1x8x64x1024 .bf16) (H : Vec Ideal S1x64x8x1024 .f32) (P : Vec Ideal S1x1x64x8x256 .f32)
    (WO WG : Vec Ideal S1024x1024 .bf16) (WP : Vec Ideal S256x1024 .bf16) : Vec Ideal S1x64x8x1024 .f32 := fun y =>
  row (fun k => mixed O Z (ix2 ⟨((y 2 : ℕ) * 64 + y 1) % 512, by omega⟩ k)) (fun k => stream H (ix2 ⟨((y 2 : ℕ) * 64 + y 1) % 512, by omega⟩ k))
    (fun k => tokens P (ix2 ⟨((y 2 : ℕ) * 64 + y 1) % 512, by omega⟩ k)) (fun k c => WO (ix2 k c)) (fun k c => WG (ix2 k c)) (fun k c => WP (ix2 k c)) (y 3)

/-- One store of the result: a residue's rows, half the columns. -/
theorem store (O : Vec Ideal S1x8x8x64x128 .bf16) (Z : Vec Ideal S1x8x64x1024 .bf16) (H : Vec Ideal S1x64x8x1024 .f32) (P : Vec Ideal S1x1x64x8x256 .f32)
    (WO WG : Vec Ideal S1024x1024 .bf16) (WP : Vec Ideal S256x1024 .bf16) (n q : ℕ) (hn : n + 64 ≤ 512)
    (i1 : ∀ a : Fin 2, (![0, q] : Fin 2 → ℕ) a + (![1024, 512] : Fin 2 → ℕ) a ≤ S1024x1024.size a)
    (i2 : ∀ a : Fin 2, (![0, q] : Fin 2 → ℕ) a + (![256, 512] : Fin 2 → ℕ) a ≤ S256x1024.size a)
    (i3 : ∀ a : Fin 2, (![0, q] : Fin 2 → ℕ) a + (![512, 512] : Fin 2 → ℕ) a ≤ S512x1024.size a)
    (i : S512x512.Slices ![n, 0] S64x512) (j : S64x512.ShapeCasts S1x64x1x512)
    (x : S1x64x1x512.Idx) (y : S1x64x8x1024.Idx) (h1 : (y 1 : ℕ) = x 1) (h2 : (y 2 : ℕ) * 64 = n) (h3 : (y 3 : ℕ) = q + x 3) :
    shapeCast S1x64x1x512 (extractStridedSlice S64x512 ![n, 0]
      (k0_pay152 (tokens P) (k0_pay140 (stream H) (mixed O Z) WO) (View.ld WG (Rect.unit (s := S1024x1024) ![0, q] ![1024, 512] i1))
        (View.ld WP (Rect.unit (s := S256x1024) ![0, q] ![256, 512] i2))
        (View.ld (k0_pay139 (stream H) (mixed O Z) WO) (Rect.unit (s := S512x1024) ![0, q] ![512, 512] i3))) i) j x = blockOut O Z H P WO WG WP y := by
  obtain ⟨u, r, w, l, rfl⟩ : ∃ (u : Fin 1) (r : Fin 64) (w : Fin 1) (l : Fin 512), x = ix4 u r w l := ⟨x 0, x 1, x 2, x 3, by blk_ext⟩
  obtain rfl : u = 0 := Subsingleton.elim _ _
  obtain rfl : w = 0 := Subsingleton.elim _ _
  obtain ⟨u', r', b', l', rfl⟩ : ∃ (u' : Fin 1) (r' : Fin 64) (b' : Fin 8) (l' : Fin 1024), y = ix4 u' r' b' l' := ⟨y 0, y 1, y 2, y 3, by blk_ext⟩
  change (r' : ℕ) = r at h1
  change (b' : ℕ) * 64 = n at h2
  change (l' : ℕ) = q + l at h3
  rw [store_at _ n hn, half_at (stream H) (mixed O Z) WO WG WP (tokens P) q i1 i2 i3 ⟨n + r, by omega⟩ l l' h3]
  have e : (⟨n + r, by omega⟩ : Fin 512) = ⟨((b' : ℕ) * 64 + r') % 512, by omega⟩ := Fin.ext (by show n + (r : ℕ) = ((b' : ℕ) * 64 + r') % 512; omega)
  rw [e]
  rfl

/-- The first half's values are computed as the second's. -/
theorem half_eq (a0 : FVec Ideal S512x1024 .f32) (a1 a2 a3 a4 a5 a6 a7 : FVec Ideal S64x256 .f32) (a8 : Vec Ideal S1x1x64x1x256 .f32) (a9 : Vec Ideal S512x1024 .bf16)
    (a10 : Vec Ideal S1024x1024 .bf16) (a11 : Vec Ideal S1024x512 .bf16) (a12 : Vec Ideal S256x512 .bf16) (a13 : Vec Ideal S512x512 .f32) :
    k0_pay141 a0 a1 a2 a3 a4 a5 a6 a7 a8 a9 a10 a11 a12 a13 = k0_pay152 (k0_pay137 a1 a2 a3 a4 a5 a6 a7 a8) (k0_pay140 a0 a9 a10) a11 a12 a13 := rfl

variable (m : (ℓ : Loc nD τ sig) → Buf (Elt Ideal) ℓ)

set_option maxHeartbeats 8000000 in
/-- What a grid point leaves in its block of the result. -/
theorem outsAt_eq (c : Dev nD) (t : Fin cfg0.N) (y : S1x64x8x1024.Idx) :
    outsAt0 m c t y = blockOut (iblk m c 1 t) (iblk m c 2 t) (iblk m c 0 t) (iblk m c 3 t) (iblk m c 4 t) (iblk m c 5 t) (iblk m c 6 t) y := by
  unfold outsAt0
  frame_open
  frame_out
  have hH : (ms0_0 t).view.read (Elt Ideal) ((hs0_0 t).unread (iblk m c 0 t)) = iblk m c 0 t := Memref.IsWhole.read_unread _ _
  rw [hH]
  rw [readCov_whole (View.whole cc0_scratch0) _ (mixed (iblk m c 1 t) (iblk m c 2 t))]
  swap
  · intro y
    canon_tiles x h
    all_goals exact piece _ _ _ _ _ (by decide) (by decide) (by rfl) _ _ x y (by omega) (by omega)
  rw [View.readCov_fill _ _ _ _ _ (by decide : ∀ a : Fin 2, (![0, 0] : Fin 2 → ℕ) a = 0),
    View.readCov_fill _ _ _ _ _ (by decide : ∀ a : Fin 2, (![0, 0] : Fin 2 → ℕ) a = 0)]
  have es := stream_eq (iblk m c 0 t)
  have et := tokens_eq (iblk m c 3 t)
  simp only [k0_pay129, k0_pay123, k0_pay124, k0_pay125, k0_pay126, k0_pay127, k0_pay128] at es
  simp only [k0_pay130, k0_pay131, k0_pay132, k0_pay133, k0_pay134, k0_pay135, k0_pay136] at et
  simp only [k0_pay123, k0_pay124, k0_pay125, k0_pay126, k0_pay127, k0_pay128, k0_pay130, k0_pay131, k0_pay132, k0_pay133, k0_pay134, k0_pay135, k0_pay136, es, et,
    k0_pay1, k0_pay2, k0_pay3, k0_pay142, k0_pay143, k0_pay144, k0_pay145, k0_pay146, k0_pay147, k0_pay148, k0_pay149, k0_pay150, k0_pay151,
    k0_pay153, k0_pay154, k0_pay155, k0_pay156, k0_pay157, k0_pay158, k0_pay159, half_eq]
  clear es et
  canon_tiles x h
  all_goals exact store _ _ _ _ _ _ _ _ _ (by decide) _ _ _ _ _ x y (by omega) (by omega) (by omega)

end Cert.PostOddIdeal.Val
-- ==== Proof.PostOddRefVal.lean ====
/- The reference of the odd layer's last call at an index. -/
module

public import proofs.«01_k».proof.Proof.Gen.PostOddRefIdeal.Read
public import Idealize.ShloMosaic.Lib.Pipeline.ValueKit
public import proofs.«01_k».proof.Proof.Post

@[expose] public section

set_option maxRecDepth 16384

noncomputable section

namespace Cert.PostOddRefIdeal.Val

open Cert.Post
open Cert.PostOddRefIdeal Cert.PostOddRefIdeal.Gen Cert.PostOddRefIdeal.Read Idealize.ShloMosaic Idealize.ShloMosaic.TcCoe Idealize.SL.Sem

variable (x0 : Vec Ideal S32768x1024 .f32) (x1 : Vec Ideal S8x8x16x256x128 .bf16) (x2 : Vec Ideal S8x16x256x1024 .bf16) (x3 : Vec Ideal S2x8x4096x256 .f32)
  (x4 : Vec Ideal S1x1024x1024 .f32) (x5 : Vec Ideal S2x1024x1024 .f32) (x6 : Vec Ideal S2x256x1024 .f32)

/-- A gated entry of a position: the head's output under its gate. -/
def mixedAt (b : Fin 8) (s : Fin 256) (n : Fin 16) (k : Fin 1024) : EReal :=
  gated (x1 (ix5 b ⟨(k : ℕ) / 128 % 8, by omega⟩ n s ⟨(k : ℕ) % 128, by omega⟩)) (x2 (ix4 b n s k))

/-- The gated outputs of a position. -/
theorem mixed_at (b : Fin 8) (s : Fin 256) (n : Fin 16) (k : Fin 1024) :
    val_main_v8 (F := Ideal) x1 x2 (ix3 b ⟨(s : ℕ) * 16 + n, by omega⟩ k) = mixedAt x1 x2 b s n k := by
  pointwise [val_main_v8, val_main_v7, val_main_v5, val_main_v4, val_main_v3, val_main_v2, val_main_v1, val_main_v0,
    val_main_call0_v5, val_main_call0_v4, val_main_call0_v3, val_main_call0_v2, val_main_call0_v1, val_main_call0_v0, val_main_call0_cst, val_main_call0_cst_0]
  unfold mixedAt gated sigmoid
  congr 1
  exact congrArg x1 (by blk_ext)

/-- The residual stream of a position. -/
theorem hidden_at (b : Fin 8) (s : Fin 256) (n : Fin 16) (k : Fin 1024) :
    val_main_v11 (F := Ideal) x0 x1 x2 x4 (ix3 b ⟨(s : ℕ) * 16 + n, by omega⟩ k)
      = hidden (mixedAt x1 x2 b s n) (fun k => x0 (ix2 ⟨(b : ℕ) * 4096 + ((s : ℕ) * 16 + n), by omega⟩ k)) (fun k c => x4 (ix3 0 k c)) k := by
  have e := mixed_at x1 x2 b s n
  rw [val_main_v11]
  unfold val_main_v10
  generalize val_main_v8 (F := Ideal) x1 x2 = M at e
  pointwise [val_main_v9, val_main_v6]
  simp only [e]
  rfl

/-- The reference's result at a position. -/
theorem result_at (b : Fin 8) (s : Fin 256) (n : Fin 16) (c : Fin 1024) :
    val_main_v28 (F := Ideal) x0 x1 x2 x3 x4 x5 x6 (ix4 b s n c)
      = row (mixedAt x1 x2 b s n) (fun k => x0 (ix2 ⟨(b : ℕ) * 4096 + ((s : ℕ) * 16 + n), by omega⟩ k)) (fun k => x3 (ix4 1 b ⟨(s : ℕ) * 16 + n, by omega⟩ k))
        (fun k c => x4 (ix3 0 k c)) (fun k c => x5 (ix3 1 k c)) (fun k c => x6 (ix3 1 k c)) c := by
  have e := hidden_at x0 x1 x2 x4 b s n
  unfold val_main_v28 val_main_v27 val_main_v26 val_main_v25 val_main_v23 val_main_v21 val_main_v20 val_main_v19
  generalize val_main_v11 (F := Ideal) x0 x1 x2 x4 = M at e
  pointwise [val_main_v24, val_main_v22, val_main_v18, val_main_v17, val_main_v16, val_main_v15, val_main_v14, val_main_v13, val_main_v12, val_main_cst, val_main_cst_0]
  simp only [e]
  rfl

end Cert.PostOddRefIdeal.Val
-- ==== Proof.PostOddFinal.lean ====
/- The result array of the odd layer's last call. -/
module

public import proofs.«01_k».proof.Proof.PostOddVal
public import proofs.«01_k».proof.Proof.PostOddRefVal

@[expose] public section

set_option maxRecDepth 16384

noncomputable section

namespace Cert.PostOddIdeal.Val

open Cert.Post
open Cert.PostOddIdeal Cert.PostOddIdeal.Gen Idealize.ShloMosaic Idealize.ShloMosaic.TcCoe Idealize.SL.Sem
open Idealize.ShloMosaic.Pipeline (Dat)

/-- A grid point's blocks: its batch, its half of the residues and its quarter of the slab. -/
theorem idx : ∀ t : Fin cfg0.N,
    win0_0.index t = ![(t : ℕ) / 8, (t : ℕ) % 4, (t : ℕ) / 4 % 2, 0] ∧ win0_1.index t = ![(t : ℕ) / 8, 0, (t : ℕ) / 4 % 2, (t : ℕ) % 4, 0]
      ∧ win0_2.index t = ![(t : ℕ) / 8, (t : ℕ) / 4 % 2, (t : ℕ) % 4, 0] ∧ win0_3.index t = ![1, (t : ℕ) / 8, (t : ℕ) % 4, (t : ℕ) / 4 % 2, 0]
      ∧ win0_4.index t = ![0, 0] ∧ win0_5.index t = ![0, 0] ∧ win0_6.index t = ![0, 0]
      ∧ win0_7.index t = ![(t : ℕ) / 8, (t : ℕ) % 4, (t : ℕ) / 4 % 2, 0] :=
  (by decide +kernel : ∀ t : Fin grid0.N,
    win0_0.index t = ![(t : ℕ) / 8, (t : ℕ) % 4, (t : ℕ) / 4 % 2, 0] ∧ win0_1.index t = ![(t : ℕ) / 8, 0, (t : ℕ) / 4 % 2, (t : ℕ) % 4, 0]
      ∧ win0_2.index t = ![(t : ℕ) / 8, (t : ℕ) / 4 % 2, (t : ℕ) % 4, 0] ∧ win0_3.index t = ![1, (t : ℕ) / 8, (t : ℕ) % 4, (t : ℕ) / 4 % 2, 0]
      ∧ win0_4.index t = ![0, 0] ∧ win0_5.index t = ![0, 0] ∧ win0_6.index t = ![0, 0]
      ∧ win0_7.index t = ![(t : ℕ) / 8, (t : ℕ) % 4, (t : ℕ) / 4 % 2, 0])

variable (m : (ℓ : Loc nD τ sig) → Buf (Elt Ideal) ℓ) (c : Dev nD)

/-- The batch of a grid point. -/
def batch (t : Fin cfg0.N) : Fin 8 := ⟨(t : ℕ) / 8, by have : (t : ℕ) < 64 := t.isLt; omega⟩

/-- The place in the slab of a row of a grid point's block. -/
def place (t : Fin cfg0.N) (r : Fin 64) : Fin 256 := ⟨(t : ℕ) % 4 * 64 + r, by omega⟩

/-- The residue of a row of a grid point's block. -/
def residue (t : Fin cfg0.N) (n : Fin 8) : Fin 16 := ⟨(t : ℕ) / 4 % 2 * 8 + n, by omega⟩

/-- The residual stream, by slab and residue. -/
theorem V_stream (b : Fin 8) (s : Fin 256) (n : Fin 16) (k : Fin 1024) :
    V m c main_v0 (ix4 b s n k) = m ((c : Thread nD τ).loc main_arg0) (ix2 ⟨(b : ℕ) * 4096 + ((s : ℕ) * 16 + n), by omega⟩ k) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise
  exact congrArg (m ((c : Thread nD τ).loc main_arg0)) (by blk_ext)

/-- The tokens' rows of the layers' embeddings, by slab and residue. -/
theorem V_tokens (b : Fin 8) (s : Fin 256) (n : Fin 16) (k : Fin 256) :
    V m c main_v1 (ix5 1 b s n k) = m ((c : Thread nD τ).loc main_arg3) (ix4 1 b ⟨(s : ℕ) * 16 + n, by omega⟩ k) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The output projection. -/
theorem V_out (k l : Fin 1024) : V m c main_v3 (ix2 k l) = m ((c : Thread nD τ).loc main_arg4) (ix3 0 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The layer's gate. -/
theorem V_gate (k l : Fin 1024) : V m c main_v6 (ix2 k l) = m ((c : Thread nD τ).loc main_arg5) (ix3 1 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- The layer's projection of the embeddings. -/
theorem V_emb (k : Fin 256) (l : Fin 1024) : V m c main_v9 (ix2 k l) = m ((c : Thread nD τ).loc main_arg6) (ix3 1 k l) := by
  unfold V
  simp only [List.flatten_cons, List.flatten_nil, List.append_nil, hostOps0, List.cons_append, List.nil_append,
    StableHlo.TRef.binary, StableHlo.TRef.unary, StableHlo.TRef.toBuf, StableHlo.TRef.ofBuf, cast_eq]
  after_results_simp
  pointwise

/-- A grid point's rows of the residual stream. -/
theorem stream_at (t : Fin cfg0.N) (r : Fin 64) (n : Fin 8) (k : Fin 1024) :
    iblk m c 0 t (ix4 0 r n k) = m ((c : Thread nD τ).loc main_arg0) (ix2 ⟨(batch t : ℕ) * 4096 + ((place t r : ℕ) * 16 + residue t n), by omega⟩ k) := by
  refine Eq.trans ?_ (V_stream m c (batch t) (place t r) (residue t n) k)
  blk_ext [iblk, idx t, batch, place, residue]

/-- A grid point's rows of the heads. -/
theorem heads_at (t : Fin cfg0.N) (h n : Fin 8) (r : Fin 64) (d : Fin 128) :
    iblk m c 1 t (ix5 0 h n r d) = m ((c : Thread nD τ).loc main_arg1) (ix5 (batch t) h (residue t n) (place t r) d) := by
  blk_ext [iblk, V, idx t, batch, place, residue]

/-- A grid point's rows of the heads' gates. -/
theorem gates_at (t : Fin cfg0.N) (n : Fin 8) (r : Fin 64) (k : Fin 1024) :
    iblk m c 2 t (ix4 0 n r k) = m ((c : Thread nD τ).loc main_arg2) (ix4 (batch t) (residue t n) (place t r) k) := by
  blk_ext [iblk, V, idx t, batch, place, residue]

/-- A grid point's rows of the embeddings. -/
theorem tokens_at (t : Fin cfg0.N) (r : Fin 64) (n : Fin 8) (k : Fin 256) :
    iblk m c 3 t (ix5 0 0 r n k) = m ((c : Thread nD τ).loc main_arg3) (ix4 1 (batch t) ⟨(place t r : ℕ) * 16 + residue t n, by omega⟩ k) := by
  refine Eq.trans ?_ (V_tokens m c (batch t) (place t r) (residue t n) k)
  blk_ext [iblk, idx t, batch, place, residue]

/-- Every grid point has the whole output projection. -/
theorem out_at (t : Fin cfg0.N) (k l : Fin 1024) : iblk m c 4 t (ix2 k l) = m ((c : Thread nD τ).loc main_arg4) (ix3 0 k l) := by
  rw [← V_out m c]
  blk_ext [iblk, idx t]

/-- Every grid point has the whole gate. -/
theorem gate_at (t : Fin cfg0.N) (k l : Fin 1024) : iblk m c 5 t (ix2 k l) = m ((c : Thread nD τ).loc main_arg5) (ix3 1 k l) := by
  rw [← V_gate m c]
  blk_ext [iblk, idx t]

/-- Every grid point has the whole projection of the embeddings. -/
theorem emb_at (t : Fin cfg0.N) (k : Fin 256) (l : Fin 1024) : iblk m c 6 t (ix2 k l) = m ((c : Thread nD τ).loc main_arg6) (ix3 1 k l) := by
  rw [← V_emb m c]
  blk_ext [iblk, idx t]

/-- The row of a block of a residue and a place. -/
def rowOf (n : Fin 8) (r : Fin 64) : Fin 512 := ⟨((n : ℕ) * 64 + r) % 512, by omega⟩

/-- It is of that residue. -/
theorem rowOf_div (n : Fin 8) (r : Fin 64) (h : (rowOf n r : ℕ) / 64 % 8 < 8) : (⟨(rowOf n r : ℕ) / 64 % 8, h⟩ : Fin 8) = n :=
  Fin.ext (by show ((n : ℕ) * 64 + r) % 512 / 64 % 8 = n; omega)

/-- And of that place. -/
theorem rowOf_mod (n : Fin 8) (r : Fin 64) (h : (rowOf n r : ℕ) % 64 < 64) : (⟨(rowOf n r : ℕ) % 64, h⟩ : Fin 64) = r :=
  Fin.ext (by show ((n : ℕ) * 64 + r) % 512 % 64 = r; omega)

/-- A head's gated entry in a grid point's block. -/
theorem mixed_eq (t : Fin cfg0.N) (n : Fin 8) (r : Fin 64) (k : Fin 1024) :
    mixed (iblk m c 1 t) (iblk m c 2 t) (ix2 (rowOf n r) k)
      = Cert.PostOddRefIdeal.Val.mixedAt (m ((c : Thread nD τ).loc main_arg1)) (m ((c : Thread nD τ).loc main_arg2)) (batch t) (place t r) (residue t n) k := by
  unfold Cert.PostOddRefIdeal.Val.mixedAt
  rw [← heads_at m c t, ← gates_at m c t]
  show gated (iblk m c 1 t (ix5 0 ⟨(k : ℕ) / 128 % 8, by omega⟩ ⟨(rowOf n r : ℕ) / 64 % 8, by omega⟩ ⟨(rowOf n r : ℕ) % 64, by omega⟩ ⟨(k : ℕ) % 128, by omega⟩))
    (iblk m c 2 t (ix4 0 ⟨(rowOf n r : ℕ) / 64 % 8, by omega⟩ ⟨(rowOf n r : ℕ) % 64, by omega⟩ k)) = _
  rw [rowOf_div, rowOf_mod]

/-- The residual stream's rows of a block, one after another. -/
theorem stream_row (t : Fin cfg0.N) (n : Fin 8) (r : Fin 64) (k : Fin 1024) : stream (iblk m c 0 t) (ix2 (rowOf n r) k)
    = m ((c : Thread nD τ).loc main_arg0) (ix2 ⟨(batch t : ℕ) * 4096 + ((place t r : ℕ) * 16 + residue t n), by omega⟩ k) := by
  rw [← stream_at m c]
  show iblk m c 0 t (ix4 0 ⟨(rowOf n r : ℕ) % 64, by omega⟩ ⟨(rowOf n r : ℕ) / 64 % 8, by omega⟩ k) = _
  rw [rowOf_div, rowOf_mod]

/-- The embeddings' rows of a block, one after another. -/
theorem tokens_row (t : Fin cfg0.N) (n : Fin 8) (r : Fin 64) (k : Fin 256) : tokens (iblk m c 3 t) (ix2 (rowOf n r) k)
    = m ((c : Thread nD τ).loc main_arg3) (ix4 1 (batch t) ⟨(place t r : ℕ) * 16 + residue t n, by omega⟩ k) := by
  rw [← tokens_at m c]
  show iblk m c 3 t (ix5 0 0 ⟨(rowOf n r : ℕ) % 64, by omega⟩ ⟨(rowOf n r : ℕ) / 64 % 8, by omega⟩ k) = _
  rw [rowOf_div, rowOf_mod]

/-- What a grid point leaves at an entry of its block: the reference's result at that entry. -/
theorem block_value (t : Fin cfg0.N) (y : S1x64x8x1024.Idx) :
    blockOut (iblk m c 1 t) (iblk m c 2 t) (iblk m c 0 t) (iblk m c 3 t) (iblk m c 4 t) (iblk m c 5 t) (iblk m c 6 t) y
      = Cert.PostOddRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (ix4 (batch t) (place t (y 1)) (residue t (y 2)) (y 3)) := by
  obtain ⟨u, r, n, l, rfl⟩ : ∃ (u : Fin 1) (r : Fin 64) (n : Fin 8) (l : Fin 1024), y = ix4 u r n l := ⟨y 0, y 1, y 2, y 3, by blk_ext⟩
  refine Eq.trans ?_ (Cert.PostOddRefIdeal.Val.result_at _ _ _ _ _ _ _ (batch t) (place t r) (residue t n) l).symm
  show row (fun k => mixed (iblk m c 1 t) (iblk m c 2 t) (ix2 (rowOf n r) k)) (fun k => stream (iblk m c 0 t) (ix2 (rowOf n r) k))
    (fun k => tokens (iblk m c 3 t) (ix2 (rowOf n r) k))
    (fun k l => iblk m c 4 t (ix2 k l)) (fun k l => iblk m c 5 t (ix2 k l)) (fun k l => iblk m c 6 t (ix2 k l)) l = _
  simp only [mixed_eq, stream_row, tokens_row, out_at, gate_at, emb_at]

/-- The kernel's result array is the reference's result of the same arguments. -/
theorem final : (dats m 0 c).arrAt 7 cfg0.N
    = Cert.PostOddRefIdeal.Read.val_main_v28 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (dats m 0 c).arrAt_eq_of_covers 7 _ (by decide +kernel) fun t hf y => ?_
  have ey : ((cfg0.win 7).blk t).view.emb y = (ix4 (batch t) (place t (y 1)) (residue t (y 2)) (y 3) : S8x256x16x1024.Idx) := by
    blk_ext [idx t, batch, place, residue]
  blk_simp
  rw [after0_7, outsAt_eq, ey]
  exact block_value m c t y

end Cert.PostOddIdeal.Val
-- ==== Proof.Finite.lean ====
/- The precondition: an entry it holds of is a real number. -/
module

public import proofs.«01_k».proof.Proof.Gen.Pre_finite
public import Idealize.ShloMosaic.Lib.Pipeline.ValueKit

@[expose] public section

set_option maxRecDepth 16384

noncomputable section

namespace Cert.Finite

open Idealize.ShloMosaic

/-- The pattern of the infinity. -/
theorem ofBits_inf : Ideal.ofBits .f32 0x7F800000#32 = ⊤ := by
  simp [Ideal.ofBits, Ideal.ieee]

/-- An extended real whose absolute value is below the infinity is a real. -/
theorem coe_toReal_of_lt (x : EReal) (h : Ideal.cmp .olt (max x (-x)) (Ideal.ofBits .f32 0x7F800000#32) = 1#1) : x = ((x.toReal : ℝ) : EReal) := by
  rw [ofBits_inf] at h
  have hl : max x (-x) < ⊤ := by
    by_contra hn
    simp [Ideal.cmp, hn] at h
  refine (EReal.coe_toReal (ne_of_lt (lt_of_le_of_lt (le_max_left _ _) hl)) fun e => ?_).symm
  rw [e] at hl
  simp at hl

/-- An array whose absolute values are all below the infinity. -/
theorem real_of_lt {s : Shape} {e : FTy} (x : FVec Ideal s e) (p : IVec s 1) (h : p = fun _ => 1#1)
    (hp : ∀ i, p i = Ideal.cmp .olt (max (x i) (-(x i))) (Ideal.ofBits .f32 0x7F800000#32)) (i : s.Idx) : x i = ((EReal.toReal (x i) : ℝ) : EReal) :=
  coe_toReal_of_lt _ ((hp i).symm.trans (congrFun h i))

end Cert.Finite
-- ==== Proof.lean ====
/- The claims of the certificate, from the runs of the programs and the value of the kernel's result array. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Fox
public import proofs.«01_k».proof.Proof.Gen.Fox.Skeleton
public import proofs.«01_k».proof.Proof.Gen.Fox.Launch
public import proofs.«01_k».proof.Proof.Gen.Fox.Points
public import proofs.«01_k».proof.Proof.Gen.Fox.Frame
public import proofs.«01_k».proof.Proof.Gen.FoxIdeal
public import proofs.«01_k».proof.Proof.Gen.FoxIdeal.Skeleton
public import proofs.«01_k».proof.Proof.Gen.FoxIdeal.Launch
public import proofs.«01_k».proof.Proof.Gen.FoxIdeal.Points
public import proofs.«01_k».proof.Proof.Gen.FoxIdeal.Frame
public import proofs.«01_k».proof.Proof.Gen.FoxIdeal.Value
public import proofs.«01_k».proof.Proof.Gen.FoxRefIdeal
public import proofs.«01_k».proof.Proof.Gen.FoxRefIdeal.Run
public import proofs.«01_k».proof.Proof.Gen.FoxRefIdeal.Read
public import proofs.«01_k».proof.Proof.Gen.PostEven
public import proofs.«01_k».proof.Proof.Gen.PostEven.Skeleton
public import proofs.«01_k».proof.Proof.Gen.PostEven.Launch
public import proofs.«01_k».proof.Proof.Gen.PostEven.Points
public import proofs.«01_k».proof.Proof.Gen.PostEven.Frame
public import proofs.«01_k».proof.Proof.Gen.PostEvenIdeal
public import proofs.«01_k».proof.Proof.Gen.PostEvenIdeal.Skeleton
public import proofs.«01_k».proof.Proof.Gen.PostEvenIdeal.Launch
public import proofs.«01_k».proof.Proof.Gen.PostEvenIdeal.Points
public import proofs.«01_k».proof.Proof.Gen.PostEvenIdeal.Frame
public import proofs.«01_k».proof.Proof.Gen.PostEvenIdeal.Value
public import proofs.«01_k».proof.Proof.Gen.PostEvenRefIdeal
public import proofs.«01_k».proof.Proof.Gen.PostEvenRefIdeal.Run
public import proofs.«01_k».proof.Proof.Gen.PostEvenRefIdeal.Read
public import proofs.«01_k».proof.Proof.Gen.PostOdd
public import proofs.«01_k».proof.Proof.Gen.PostOdd.Skeleton
public import proofs.«01_k».proof.Proof.Gen.PostOdd.Launch
public import proofs.«01_k».proof.Proof.Gen.PostOdd.Points
public import proofs.«01_k».proof.Proof.Gen.PostOdd.Frame
public import proofs.«01_k».proof.Proof.Gen.PostOddIdeal
public import proofs.«01_k».proof.Proof.Gen.PostOddIdeal.Skeleton
public import proofs.«01_k».proof.Proof.Gen.PostOddIdeal.Launch
public import proofs.«01_k».proof.Proof.Gen.PostOddIdeal.Points
public import proofs.«01_k».proof.Proof.Gen.PostOddIdeal.Frame
public import proofs.«01_k».proof.Proof.Gen.PostOddIdeal.Value
public import proofs.«01_k».proof.Proof.Gen.PostOddRefIdeal
public import proofs.«01_k».proof.Proof.Gen.PostOddRefIdeal.Run
public import proofs.«01_k».proof.Proof.Gen.PostOddRefIdeal.Read
public import proofs.«01_k».proof.Proof.Gen.Pre_fox_finite
public import proofs.«01_k».proof.Proof.Final
public import proofs.«01_k».proof.Proof.FoxFinal
public import proofs.«01_k».proof.Proof.PostEvenFinal
public import proofs.«01_k».proof.Proof.PostOddFinal
public import proofs.«01_k».proof.Proof.Finite
public import Idealize.ShloMosaic.Adequacy
public import Idealize.ShloMosaic.Init

@[expose] public section

noncomputable section

namespace Cert.Proof

open Idealize.ShloMosaic Idealize.SL.Sem
open Cert.KernelIdeal.Val (exists_heads exists_headsT exists_pair final)

/-- The kernel as printed runs, leaves its arguments as they were and every counter at zero. -/
theorem frame_p : Cert.quiescent_Kernel := fun m ρ _ => Cert.Kernel.Gen.frame m ρ

/-- So does the idealized kernel. -/
theorem frame_pi : Cert.quiescent_KernelIdeal := fun m ρ _ => Cert.KernelIdeal.Gen.frame m ρ

/-- And so does it on the finite arguments. -/
theorem frame_pi_finite : Cert.quiescent_KernelIdeal_pre_finite := fun m ρ _ => Cert.KernelIdeal.Gen.frame m ρ

/-- So does the reference. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- And so does it on the finite arguments. -/
theorem frame_ri_finite : Cert.quiescent_ReferenceIdeal_pre_finite := fun m ρ _ => frame_ri m ρ trivial

/-- The idealization replaced one constant, the scale of the queries, by the number it stands for. -/
theorem preserves : Cert.preserves_Kernel_KernelIdeal :=
  IdealRules.named_const.statement Cert.KernelIdeal.κ "qscale" .f32 0x3E38AA3B#32 (((8 * (Real.log 2))⁻¹ : ℝ) : EReal) rfl

/-- On finite arguments the idealized kernel's result is the reference's. -/
theorem algebraic : Cert.algebraic_KernelIdeal_ReferenceIdeal_pre_finite := by
  intro m ρ m' ρ' hfin hagree
  refine ⟨_, Cert.KernelIdeal.Value.run_blocks (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  obtain ⟨f0, f1, f2, f3, f4, f5, f6⟩ := hfin c
  obtain ⟨q, h0⟩ := exists_heads (m ((c.tc : Thread Cert.KernelIdeal.nD Cert.KernelIdeal.τ).loc Cert.KernelIdeal.main_arg0))
    (Cert.Finite.real_of_lt (e := .bf16) _ _ f0 fun _ => rfl)
  obtain ⟨k, h1⟩ := exists_heads (m ((c.tc : Thread Cert.KernelIdeal.nD Cert.KernelIdeal.τ).loc Cert.KernelIdeal.main_arg1))
    (Cert.Finite.real_of_lt (e := .bf16) _ _ f1 fun _ => rfl)
  obtain ⟨v, h2⟩ := exists_headsT (m ((c.tc : Thread Cert.KernelIdeal.nD Cert.KernelIdeal.τ).loc Cert.KernelIdeal.main_arg2))
    (Cert.Finite.real_of_lt (e := .bf16) _ _ f2 fun _ => rfl)
  obtain ⟨l3, h3⟩ := exists_pair (m ((c.tc : Thread Cert.KernelIdeal.nD Cert.KernelIdeal.τ).loc Cert.KernelIdeal.main_arg3))
    (Cert.Finite.real_of_lt (e := .f32) _ _ f3 fun _ => rfl)
  obtain ⟨l4, h4⟩ := exists_pair (m ((c.tc : Thread Cert.KernelIdeal.nD Cert.KernelIdeal.τ).loc Cert.KernelIdeal.main_arg4))
    (Cert.Finite.real_of_lt (e := .f32) _ _ f4 fun _ => rfl)
  obtain ⟨l5, h5⟩ := exists_pair (m ((c.tc : Thread Cert.KernelIdeal.nD Cert.KernelIdeal.τ).loc Cert.KernelIdeal.main_arg5))
    (Cert.Finite.real_of_lt (e := .f32) _ _ f5 fun _ => rfl)
  obtain ⟨l6, h6⟩ := exists_pair (m ((c.tc : Thread Cert.KernelIdeal.nD Cert.KernelIdeal.τ).loc Cert.KernelIdeal.main_arg6))
    (Cert.Finite.real_of_lt (e := .f32) _ _ f6 fun _ => rfl)
  rw [Cert.ReferenceIdeal.Read.val_main_v74_eq, a0, a1, a2, a3, a4, a5, a6, a7, h0, h1, h2, h3, h4, h5, h6]
  exact (final m c q k v l3 l4 l5 l6 h0 h1 h2 h3 h4 h5 h6).symm

/-- The forgetting attention's call runs, leaves its arguments as they were and every counter at zero. -/
theorem fox_frame : Cert.quiescent_Fox := fun m ρ _ => Cert.Fox.Gen.frame m ρ

/-- So does its idealization. -/
theorem fox_frame_ideal : Cert.quiescent_FoxIdeal := fun m ρ _ => Cert.FoxIdeal.Gen.frame m ρ

/-- And so does it on the finite arguments. -/
theorem fox_frame_ideal_finite : Cert.quiescent_FoxIdeal_pre_fox_finite := fun m ρ _ => Cert.FoxIdeal.Gen.frame m ρ

/-- So does its reference. -/
theorem fox_frame_ref : Cert.quiescent_FoxRefIdeal := fun m ρ _ =>
  (θ_run Cert.FoxRefIdeal.defs _ _).mono (fun r h => ⟨fun c => (h c).2, Idealize.ShloMosaic.sem_eq_zero_of_no_sems (by decide) r.2⟩)
    (Cert.FoxRefIdeal.Value.run (F := Ideal) m ρ)

/-- And so does it on the finite arguments. -/
theorem fox_frame_ref_finite : Cert.quiescent_FoxRefIdeal_pre_fox_finite := fun m ρ _ => fox_frame_ref m ρ trivial

/-- The idealization replaced one constant, the scale of the queries, by the number it stands for. -/
theorem fox_preserves : Cert.preserves_Fox_FoxIdeal :=
  IdealRules.named_const.statement Cert.FoxIdeal.κ "fscale" .f32 0x3E0293EE#32 ((((Real.sqrt 128) * (Real.log 2))⁻¹ : ℝ) : EReal) rfl

/-- On finite arguments the forgetting attention's result is its reference's. -/
theorem fox_algebraic : Cert.algebraic_FoxIdeal_FoxRefIdeal_pre_fox_finite := by
  intro m ρ m' ρ' hfin hagree
  refine ⟨_, Cert.FoxIdeal.Value.run_blocks (F := Ideal) m ρ, ?_⟩
  refine (θ_run Cert.FoxRefIdeal.defs _ _).mono (fun _ h c => ⟨(h c).1.trans ?_, (h c).2⟩)
    (Cert.FoxRefIdeal.Value.run (F := Ideal) m' ρ')
  obtain ⟨a0, a1, a2, a3⟩ := hagree c
  obtain ⟨f0, f1, f2, f3⟩ := hfin c
  obtain ⟨q, h0⟩ := exists_heads (m ((c.tc : Thread Cert.FoxIdeal.nD Cert.FoxIdeal.τ).loc Cert.FoxIdeal.main_arg0))
    (Cert.Finite.real_of_lt (e := .bf16) _ _ f0 fun _ => rfl)
  obtain ⟨k, h1⟩ := exists_heads (m ((c.tc : Thread Cert.FoxIdeal.nD Cert.FoxIdeal.τ).loc Cert.FoxIdeal.main_arg1))
    (Cert.Finite.real_of_lt (e := .bf16) _ _ f1 fun _ => rfl)
  obtain ⟨v, h2⟩ := exists_headsT (m ((c.tc : Thread Cert.FoxIdeal.nD Cert.FoxIdeal.τ).loc Cert.FoxIdeal.main_arg2))
    (Cert.Finite.real_of_lt (e := .bf16) _ _ f2 fun _ => rfl)
  obtain ⟨a, h3⟩ := exists_heads (m ((c.tc : Thread Cert.FoxIdeal.nD Cert.FoxIdeal.τ).loc Cert.FoxIdeal.main_arg3))
    (Cert.Finite.real_of_lt (e := .bf16) _ _ f3 fun _ => rfl)
  rw [Cert.FoxRefIdeal.Read.val_main_v48_eq, a0, a1, a2, a3, h0, h1, h2, h3]
  exact (Cert.FoxIdeal.Val.final m c q k a v h0 h1 h2 h3).symm

/-- The even layer's last call runs, leaves its arguments as they were and every counter at zero. -/
theorem even_frame : Cert.quiescent_PostEven := fun m ρ _ => Cert.PostEven.Gen.frame m ρ

/-- So does its idealization. -/
theorem even_frame_ideal : Cert.quiescent_PostEvenIdeal := fun m ρ _ => Cert.PostEvenIdeal.Gen.frame m ρ

/-- So does its reference. -/
theorem even_frame_ref : Cert.quiescent_PostEvenRefIdeal := fun m ρ _ =>
  (θ_run Cert.PostEvenRefIdeal.defs _ _).mono (fun r h => ⟨fun c => (h c).2, Idealize.ShloMosaic.sem_eq_zero_of_no_sems (by decide) r.2⟩)
    (Cert.PostEvenRefIdeal.Value.run (F := Ideal) m ρ)

/-- The idealization rewrote nothing. -/
theorem even_preserves : Cert.preserves_PostEven_PostEvenIdeal := trivial

/-- The even layer's last call computes its reference's result. -/
theorem even_algebraic : Cert.algebraic_PostEvenIdeal_PostEvenRefIdeal := by
  intro m ρ m' ρ' hpre hagree
  refine ⟨_, Cert.PostEvenIdeal.Value.run_blocks (F := Ideal) m ρ, ?_⟩
  refine (θ_run Cert.PostEvenRefIdeal.defs _ _).mono (fun _ h c => ⟨(h c).1.trans ?_, (h c).2⟩)
    (Cert.PostEvenRefIdeal.Value.run (F := Ideal) m' ρ')
  obtain ⟨a0, a1, a2, a3, a4, a5, a6, a7⟩ := hagree c
  rw [Cert.PostEvenRefIdeal.Read.val_main_v30_eq, a0, a1, a2, a3, a4, a5, a6, a7]
  exact (Cert.PostEvenIdeal.Val.final m c).symm

/-- The odd layer's last call runs, leaves its arguments as they were and every counter at zero. -/
theorem odd_frame : Cert.quiescent_PostOdd := fun m ρ _ => Cert.PostOdd.Gen.frame m ρ

/-- So does its idealization. -/
theorem odd_frame_ideal : Cert.quiescent_PostOddIdeal := fun m ρ _ => Cert.PostOddIdeal.Gen.frame m ρ

/-- So does its reference. -/
theorem odd_frame_ref : Cert.quiescent_PostOddRefIdeal := fun m ρ _ =>
  (θ_run Cert.PostOddRefIdeal.defs _ _).mono (fun r h => ⟨fun c => (h c).2, Idealize.ShloMosaic.sem_eq_zero_of_no_sems (by decide) r.2⟩)
    (Cert.PostOddRefIdeal.Value.run (F := Ideal) m ρ)

/-- The idealization rewrote nothing. -/
theorem odd_preserves : Cert.preserves_PostOdd_PostOddIdeal := trivial

/-- The odd layer's last call computes its reference's result. -/
theorem odd_algebraic : Cert.algebraic_PostOddIdeal_PostOddRefIdeal := by
  intro m ρ m' ρ' hpre hagree
  refine ⟨_, Cert.PostOddIdeal.Value.run_blocks (F := Ideal) m ρ, ?_⟩
  refine (θ_run Cert.PostOddRefIdeal.defs _ _).mono (fun _ h c => ⟨(h c).1.trans ?_, (h c).2⟩)
    (Cert.PostOddRefIdeal.Value.run (F := Ideal) m' ρ')
  obtain ⟨a0, a1, a2, a3, a4, a5, a6⟩ := hagree c
  rw [Cert.PostOddRefIdeal.Read.val_main_v28_eq, a0, a1, a2, a3, a4, a5, a6]
  exact (Cert.PostOddIdeal.Val.final m c).symm

/-- Every claim of the certificate. -/
theorem claim : Cert.Claim := ⟨Cert.Kernel.Gen.facts, Cert.KernelIdeal.Gen.facts, Cert.ReferenceIdeal.Gen.facts,
  Cert.Fox.Gen.facts, Cert.FoxIdeal.Gen.facts, Cert.FoxRefIdeal.Gen.facts,
  Cert.PostEven.Gen.facts, Cert.PostEvenIdeal.Gen.facts, Cert.PostEvenRefIdeal.Gen.facts,
  Cert.PostOdd.Gen.facts, Cert.PostOddIdeal.Gen.facts, Cert.PostOddRefIdeal.Gen.facts,
  Cert.Pre_finite.Gen.facts, Cert.Pre_fox_finite.Gen.facts,
  frame_p, frame_pi, frame_pi_finite, frame_ri, frame_ri_finite,
  fox_frame, fox_frame_ideal, fox_frame_ideal_finite, fox_frame_ref, fox_frame_ref_finite,
  even_frame, even_frame_ideal, even_frame_ref, odd_frame, odd_frame_ideal, odd_frame_ref,
  preserves, algebraic, fox_preserves, fox_algebraic, even_preserves, even_algebraic, odd_preserves, odd_algebraic⟩

end Cert.Proof

end
